-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "pad" .f32 0x461C4000#32 ⊤
  ∧ IdealRules.named_const.Statement Cert.KernelIdeal.κ "half_log2e" .bf16 0xBF39#16 (((-1 / 2) * (Real.log 2)⁻¹ : ℝ) : EReal)
  ∧ IdealRules.named_const.Statement Cert.KernelIdeal.κ "inv_n" .f32 0x38D1B717#32 ((1 / 10000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x256x256 : Shape := ⟨4, ![2, 1, 256, 256]⟩
abbrev S10000 : Shape := ⟨1, ![10000]⟩
abbrev S131072 : Shape := ⟨1, ![131072]⟩
abbrev S_ : Shape := ⟨0, ![]⟩
abbrev S10000x1 : Shape := ⟨2, ![10000, 1]⟩
abbrev S1x10000 : Shape := ⟨2, ![1, 10000]⟩
abbrev S2x10000 : Shape := ⟨2, ![2, 10000]⟩
abbrev S2x240 : Shape := ⟨2, ![2, 240]⟩
abbrev S2x10240 : Shape := ⟨2, ![2, 10240]⟩
abbrev S2x1x10240 : Shape := ⟨3, ![2, 1, 10240]⟩
abbrev S2x10240x1 : Shape := ⟨3, ![2, 10240, 1]⟩
abbrev S2x10240x128 : Shape := ⟨3, ![2, 10240, 128]⟩
abbrev S2x80x128 : Shape := ⟨3, ![2, 80, 128]⟩
abbrev S8x128 : Shape := ⟨2, ![8, 128]⟩
abbrev S1x1 : Shape := ⟨2, ![1, 1]⟩
abbrev S1x1x512 : Shape := ⟨3, ![1, 1, 512]⟩
abbrev S1x10240x128 : Shape := ⟨3, ![1, 10240, 128]⟩
abbrev S1x512 : Shape := ⟨2, ![1, 512]⟩
abbrev S8x512 : Shape := ⟨2, ![8, 512]⟩
abbrev S1x16x128 : Shape := ⟨3, ![1, 16, 128]⟩
abbrev S16x128 : Shape := ⟨2, ![16, 128]⟩
abbrev S16x512 : Shape := ⟨2, ![16, 512]⟩
abbrev S2x8x512 : Shape := ⟨3, ![2, 8, 512]⟩
abbrev S512 : Shape := ⟨1, ![512]⟩
abbrev S80x128 : Shape := ⟨2, ![80, 128]⟩
abbrev S1x80x128 : Shape := ⟨3, ![1, 80, 128]⟩
abbrev S1 : Shape := ⟨1, ![1]⟩
abbrev S1x1x1 : Shape := ⟨3, ![1, 1, 1]⟩

abbrev nBuf : Space → Nat
  | .hbm => 80
  | .vmem => 20
  | .smem => 0
  | _ => 0

abbrev bufTy : (tb : Table) → Fin (tcTables nBuf tb) → BufTy
  | .hbm, ⟨0, _⟩ => ⟨S2x1x256x256, .f32⟩
  | .hbm, ⟨1, _⟩ => ⟨S2x1x256x256, .f32⟩
  | .hbm, ⟨2, _⟩ => ⟨S2x1x256x256, .f32⟩
  | .hbm, ⟨3, _⟩ => ⟨S10000, .i32⟩
  | .hbm, ⟨4, _⟩ => ⟨S10000, .i32⟩
  | .hbm, ⟨5, _⟩ => ⟨S131072, .f32⟩
  | .hbm, ⟨6, _⟩ => ⟨S131072, .f32⟩
  | .hbm, ⟨7, _⟩ => ⟨S131072, .f32⟩
  | .hbm, ⟨8, _⟩ => ⟨S_, .i32⟩
  | .hbm, ⟨9, _⟩ => ⟨S10000, .i32⟩
  | .hbm, ⟨10, _⟩ => ⟨S10000, .i1⟩
  | .hbm, ⟨11, _⟩ => ⟨S_, .i32⟩
  | .hbm, ⟨12, _⟩ => ⟨S10000, .i32⟩
  | .hbm, ⟨13, _⟩ => ⟨S10000, .i32⟩
  | .hbm, ⟨14, _⟩ => ⟨S10000, .i32⟩
  | .hbm, ⟨15, _⟩ => ⟨S10000x1, .i32⟩
  | .hbm, ⟨16, _⟩ => ⟨S10000, .f32⟩
  | .hbm, ⟨17, _⟩ => ⟨S_, .i32⟩
  | .hbm, ⟨18, _⟩ => ⟨S10000, .i32⟩
  | .hbm, ⟨19, _⟩ => ⟨S10000, .i1⟩
  | .hbm, ⟨20, _⟩ => ⟨S_, .i32⟩
  | .hbm, ⟨21, _⟩ => ⟨S10000, .i32⟩
  | .hbm, ⟨22, _⟩ => ⟨S10000, .i32⟩
  | .hbm, ⟨23, _⟩ => ⟨S10000, .i32⟩
  | .hbm, ⟨24, _⟩ => ⟨S10000x1, .i32⟩
  | .hbm, ⟨25, _⟩ => ⟨S10000, .f32⟩
  | .hbm, ⟨26, _⟩ => ⟨S1x10000, .f32⟩
  | .hbm, ⟨27, _⟩ => ⟨S1x10000, .f32⟩
  | .hbm, ⟨28, _⟩ => ⟨S2x10000, .f32⟩
  | .hbm, ⟨29, _⟩ => ⟨S_, .f32⟩
  | .hbm, ⟨30, _⟩ => ⟨S2x10000, .f32⟩
  | .hbm, ⟨31, _⟩ => ⟨S2x10000, .f32⟩
  | .hbm, ⟨32, _⟩ => ⟨S_, .i32⟩
  | .hbm, ⟨33, _⟩ => ⟨S10000, .i32⟩
  | .hbm, ⟨34, _⟩ => ⟨S10000, .i1⟩
  | .hbm, ⟨35, _⟩ => ⟨S_, .i32⟩
  | .hbm, ⟨36, _⟩ => ⟨S10000, .i32⟩
  | .hbm, ⟨37, _⟩ => ⟨S10000, .i32⟩
  | .hbm, ⟨38, _⟩ => ⟨S10000, .i32⟩
  | .hbm, ⟨39, _⟩ => ⟨S10000x1, .i32⟩
  | .hbm, ⟨40, _⟩ => ⟨S10000, .f32⟩
  | .hbm, ⟨41, _⟩ => ⟨S_, .i32⟩
  | .hbm, ⟨42, _⟩ => ⟨S10000, .i32⟩
  | .hbm, ⟨43, _⟩ => ⟨S10000, .i1⟩
  | .hbm, ⟨44, _⟩ => ⟨S_, .i32⟩
  | .hbm, ⟨45, _⟩ => ⟨S10000, .i32⟩
  | .hbm, ⟨46, _⟩ => ⟨S10000, .i32⟩
  | .hbm, ⟨47, _⟩ => ⟨S10000, .i32⟩
  | .hbm, ⟨48, _⟩ => ⟨S10000x1, .i32⟩
  | .hbm, ⟨49, _⟩ => ⟨S10000, .f32⟩
  | .hbm, ⟨50, _⟩ => ⟨S1x10000, .f32⟩
  | .hbm, ⟨51, _⟩ => ⟨S1x10000, .f32⟩
  | .hbm, ⟨52, _⟩ => ⟨S2x10000, .f32⟩
  | .hbm, ⟨53, _⟩ => ⟨S_, .f32⟩
  | .hbm, ⟨54, _⟩ => ⟨S2x10000, .f32⟩
  | .hbm, ⟨55, _⟩ => ⟨S2x10000, .f32⟩
  | .hbm, ⟨56, _⟩ => ⟨S_, .f32⟩
  | .hbm, ⟨57, _⟩ => ⟨S2x240, .f32⟩
  | .hbm, ⟨58, _⟩ => ⟨S2x240, .f32⟩
  | .hbm, ⟨59, _⟩ => ⟨S2x10240, .f32⟩
  | .hbm, ⟨60, _⟩ => ⟨S2x10240, .f32⟩
  | .hbm, ⟨61, _⟩ => ⟨S2x1x10240, .f32⟩
  | .hbm, ⟨62, _⟩ => ⟨S2x1x10240, .bf16⟩
  | .hbm, ⟨63, _⟩ => ⟨S2x1x10240, .f32⟩
  | .hbm, ⟨64, _⟩ => ⟨S2x1x10240, .bf16⟩
  | .hbm, ⟨65, _⟩ => ⟨S2x10240x1, .f32⟩
  | .hbm, ⟨66, _⟩ => ⟨S2x10240x128, .f32⟩
  | .hbm, ⟨67, _⟩ => ⟨S2x10240x128, .bf16⟩
  | .hbm, ⟨68, _⟩ => ⟨S2x10240x1, .f32⟩
  | .hbm, ⟨69, _⟩ => ⟨S2x10240x128, .f32⟩
  | .hbm, ⟨70, _⟩ => ⟨S2x10240x128, .bf16⟩
  | .hbm, ⟨71, _⟩ => ⟨S2x1x10240, .f32⟩
  | .hbm, ⟨72, _⟩ => ⟨S2x1x10240, .f32⟩
  | .hbm, ⟨73, _⟩ => ⟨S2x1x10240, .f32⟩
  | .hbm, ⟨74, _⟩ => ⟨S2x80x128, .f32⟩
  | .hbm, ⟨75, _⟩ => ⟨S2x80x128, .f32⟩
  | .hbm, ⟨76, _⟩ => ⟨S2x80x128, .f32⟩
  | .hbm, ⟨77, _⟩ => ⟨S8x128, .f32⟩
  | .hbm, ⟨78, _⟩ => ⟨S1x1, .f32⟩
  | .hbm, ⟨79, _⟩ => ⟨S_, .f32⟩
  | .local _ .vmem, ⟨0, _⟩ => ⟨S2x240, .f32⟩
  | .local _ .vmem, ⟨1, _⟩ => ⟨S2x240, .f32⟩
  | .local _ .vmem, ⟨2, _⟩ => ⟨S1x1x512, .bf16⟩
  | .local _ .vmem, ⟨3, _⟩ => ⟨S1x1x512, .bf16⟩
  | .local _ .vmem, ⟨4, _⟩ => ⟨S1x1x512, .bf16⟩
  | .local _ .vmem, ⟨5, _⟩ => ⟨S1x1x512, .bf16⟩
  | .local _ .vmem, ⟨6, _⟩ => ⟨S1x10240x128, .bf16⟩
  | .local _ .vmem, ⟨7, _⟩ => ⟨S1x10240x128, .bf16⟩
  | .local _ .vmem, ⟨8, _⟩ => ⟨S1x10240x128, .bf16⟩
  | .local _ .vmem, ⟨9, _⟩ => ⟨S1x10240x128, .bf16⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S2x80x128, .f32⟩
  | .local _ .vmem, ⟨17, _⟩ => ⟨S2x80x128, .f32⟩
  | .local _ .vmem, ⟨18, _⟩ => ⟨S2x80x128, .f32⟩
  | .local _ .vmem, ⟨19, _⟩ => ⟨S8x128, .f32⟩
  | _, _ => ⟨S2x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10_0 : Ref sig .tc := ⟨.hbm, 71, rfl⟩
abbrev main_call0_v10_1 : Ref sig .tc := ⟨.hbm, 72, rfl⟩
abbrev main_call0_v10_2 : Ref sig .tc := ⟨.hbm, 73, rfl⟩
abbrev main_call0_v11 : Ref sig .tc := ⟨.hbm, 74, rfl⟩
abbrev main_call0_v12 : Ref sig .tc := ⟨.hbm, 75, rfl⟩
abbrev main_call0_v13 : Ref sig .tc := ⟨.hbm, 76, rfl⟩
abbrev main_call0_v14 : Ref sig .tc := ⟨.hbm, 77, rfl⟩
abbrev main_call0_v15 : Ref sig .tc := ⟨.hbm, 78, rfl⟩
abbrev main_v45 : Ref sig .tc := ⟨.hbm, 79, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem1_0 : DmaSem sig := 17
abbrev cc2_sem2_0 : DmaSem sig := 18
abbrev cc2_sem3_0 : DmaSem sig := 19

abbrev nD : Nat := 1
abbrev τ : Topo := Topo.v7x

variable {F : FTy → Type} [FloatOps F]

abbrev grid0 : Pipeline.Grid := .none

abbrev stage0_0 : Fin 1 → Memref sig .tc .vmem S2x240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 20], ![false, false]⟩

@[reducible] def k1_t1_loop : Scf.Loop 32 :=
  let c0_i32 : BitVec 32 := 0#32
  let c20_i32 : BitVec 32 := 20#32
  let v5 : BitVec 32 := Scalar.addi c0_i32 c20_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c0_i32_19 : BitVec 32 := 0#32
  let v21 : BitVec 32 := Scalar.addi v20 c0_i32_19
  v21
def k1_off1 (k1_t1 : Fin k1_t1_loop.trips) (c0_i32_19 : BitVec 32) : Fin 3 → Nat :=
  let c0_20 : Index := 0#32
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let v21 : BitVec 32 := Scalar.addi v20 c0_i32_19
  let v22 : BitVec 32 := v21
  let v23 : Index := Scalar.indexCast v22
  let c0_21 : Index := 0#32
  ![0, v23.toNat, 0]
def k1_mult2 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c16_i32_27 : BitVec 32 := 16#32
  let v55 : BitVec 32 := Scalar.addi v20 c16_i32_27
  v55
def k1_mult3 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c32_i32_35 : BitVec 32 := 32#32
  let v89 : BitVec 32 := Scalar.addi v20 c32_i32_35
  v89
def k1_mult4 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c48_i32 : BitVec 32 := 48#32
  let v123 : BitVec 32 := Scalar.addi v20 c48_i32
  v123
def k1_mult5 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c64_i32 : BitVec 32 := 64#32
  let v157 : BitVec 32 := Scalar.addi v20 c64_i32
  v157
def k1_mult6 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c80_i32 : BitVec 32 := 80#32
  let v191 : BitVec 32 := Scalar.addi v20 c80_i32
  v191
def k1_mult7 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c96_i32 : BitVec 32 := 96#32
  let v225 : BitVec 32 := Scalar.addi v20 c96_i32
  v225
def k1_mult8 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c112_i32 : BitVec 32 := 112#32
  let v259 : BitVec 32 := Scalar.addi v20 c112_i32
  v259
def k1_mult9 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c128_i32 : BitVec 32 := 128#32
  let v293 : BitVec 32 := Scalar.addi v20 c128_i32
  v293
def k1_mult10 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c144_i32 : BitVec 32 := 144#32
  let v327 : BitVec 32 := Scalar.addi v20 c144_i32
  v327
def k1_mult11 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c160_i32 : BitVec 32 := 160#32
  let v361 : BitVec 32 := Scalar.addi v20 c160_i32
  v361
def k1_mult12 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c176_i32 : BitVec 32 := 176#32
  let v395 : BitVec 32 := Scalar.addi v20 c176_i32
  v395
def k1_mult13 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c192_i32 : BitVec 32 := 192#32
  let v429 : BitVec 32 := Scalar.addi v20 c192_i32
  v429
def k1_mult14 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c208_i32 : BitVec 32 := 208#32
  let v463 : BitVec 32 := Scalar.addi v20 c208_i32
  v463
def k1_mult15 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c224_i32 : BitVec 32 := 224#32
  let v497 : BitVec 32 := Scalar.addi v20 c224_i32
  v497
def k1_mult16 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c240_i32 : BitVec 32 := 240#32
  let v531 : BitVec 32 := Scalar.addi v20 c240_i32
  v531
def k1_mult17 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c256_i32 : BitVec 32 := 256#32
  let v565 : BitVec 32 := Scalar.addi v20 c256_i32
  v565
def k1_mult18 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c272_i32 : BitVec 32 := 272#32
  let v599 : BitVec 32 := Scalar.addi v20 c272_i32
  v599
def k1_mult19 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c288_i32 : BitVec 32 := 288#32
  let v633 : BitVec 32 := Scalar.addi v20 c288_i32
  v633
def k1_mult20 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c304_i32 : BitVec 32 := 304#32
  let v667 : BitVec 32 := Scalar.addi v20 c304_i32
  v667
def k1_mult21 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c320_i32 : BitVec 32 := 320#32
  let v701 : BitVec 32 := Scalar.addi v20 c320_i32
  v701
def k1_mult22 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c336_i32 : BitVec 32 := 336#32
  let v735 : BitVec 32 := Scalar.addi v20 c336_i32
  v735
def k1_mult23 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c352_i32 : BitVec 32 := 352#32
  let v769 : BitVec 32 := Scalar.addi v20 c352_i32
  v769
def k1_mult24 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c368_i32 : BitVec 32 := 368#32
  let v803 : BitVec 32 := Scalar.addi v20 c368_i32
  v803
def k1_mult25 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c384_i32 : BitVec 32 := 384#32
  let v837 : BitVec 32 := Scalar.addi v20 c384_i32
  v837
def k1_mult26 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c400_i32 : BitVec 32 := 400#32
  let v871 : BitVec 32 := Scalar.addi v20 c400_i32
  v871
def k1_mult27 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c416_i32 : BitVec 32 := 416#32
  let v905 : BitVec 32 := Scalar.addi v20 c416_i32
  v905
def k1_mult28 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c432_i32 : BitVec 32 := 432#32
  let v939 : BitVec 32 := Scalar.addi v20 c432_i32
  v939
def k1_mult29 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c448_i32 : BitVec 32 := 448#32
  let v973 : BitVec 32 := Scalar.addi v20 c448_i32
  v973
def k1_mult30 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c464_i32 : BitVec 32 := 464#32
  let v1007 : BitVec 32 := Scalar.addi v20 c464_i32
  v1007
def k1_mult31 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c480_i32 : BitVec 32 := 480#32
  let v1041 : BitVec 32 := Scalar.addi v20 c480_i32
  v1041
def k1_mult32 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v19 : BitVec 32 := Scalar.muli arg9 c32_i32
  let c16_i32 : BitVec 32 := 16#32
  let v20 : BitVec 32 := Scalar.muli v19 c16_i32
  let c496_i32 : BitVec 32 := 496#32
  let v1075 : BitVec 32 := Scalar.addi v20 c496_i32
  v1075
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x10240x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x10240x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := .none

abbrev stage2_0 : Fin 1 → Memref sig .tc .vmem S2x80x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x80x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x80x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== KernelIdeal.lean ====
variable {F : FTy → Type} [FloatOps F] [Named F]
def κ : String → Option EReal := fun
  | "half_log2e" => some (((-1 / 2) * (Real.log 2)⁻¹ : ℝ) : EReal)
  | "inv_n" => some ((1 / 10000 : ℝ) : EReal)
  | "pad" => some ⊤
  | _ => none
-- ==== ReferenceIdeal.lean ====
abbrev S2x1x256x256 : Shape := ⟨4, ![2, 1, 256, 256]⟩
abbrev S10000 : Shape := ⟨1, ![10000]⟩
abbrev S131072 : Shape := ⟨1, ![131072]⟩
abbrev S_ : Shape := ⟨0, ![]⟩
abbrev S10000x1 : Shape := ⟨2, ![10000, 1]⟩
abbrev S1x10000 : Shape := ⟨2, ![1, 10000]⟩
abbrev S10000x10000 : Shape := ⟨2, ![10000, 10000]⟩

abbrev nBuf : Space → Nat
  | .hbm => 240
  | .vmem => 0
  | .smem => 0
  | _ => 0

abbrev hbmTy0_0 (i : Nat) : BufTy := match i % 128 with
  | 0 => ⟨S2x1x256x256, .f32⟩
  | 1 => ⟨S2x1x256x256, .f32⟩
  | 2 => ⟨S2x1x256x256, .f32⟩
  | 3 => ⟨S10000, .i32⟩
  | 4 => ⟨S10000, .i32⟩
  | 5 => ⟨S131072, .f32⟩
  | 6 => ⟨S131072, .f32⟩
  | 7 => ⟨S131072, .f32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S10000x1, .i32⟩
  | 16 => ⟨S10000, .f32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S10000, .f32⟩
  | 26 => ⟨S_, .f32⟩
  | 27 => ⟨S_, .f32⟩
  | 28 => ⟨S_, .f32⟩
  | 29 => ⟨S1x10000, .f32⟩
  | 30 => ⟨S10000x1, .f32⟩
  | 31 => ⟨S10000x10000, .f32⟩
  | 32 => ⟨S10000x10000, .f32⟩
  | 33 => ⟨S10000x10000, .f32⟩
  | 34 => ⟨S10000x10000, .f32⟩
  | 35 => ⟨S10000x10000, .f32⟩
  | 36 => ⟨S_, .f32⟩
  | 37 => ⟨S10000x10000, .f32⟩
  | 38 => ⟨S10000x10000, .f32⟩
  | 39 => ⟨S10000x10000, .f32⟩
  | 40 => ⟨S10000x10000, .f32⟩
  | 41 => ⟨S_, .f32⟩
  | 42 => ⟨S10000, .f32⟩
  | 43 => ⟨S_, .f32⟩
  | 44 => ⟨S10000, .f32⟩
  | 45 => ⟨S10000, .f32⟩
  | 46 => ⟨S_, .f32⟩
  | 47 => ⟨S_, .f32⟩
  | 48 => ⟨S_, .f32⟩
  | 49 => ⟨S_, .f32⟩
  | 50 => ⟨S10000, .f32⟩
  | 51 => ⟨S10000, .f32⟩
  | 52 => ⟨S1x10000, .f32⟩
  | 53 => ⟨S10000x1, .f32⟩
  | 54 => ⟨S10000x10000, .f32⟩
  | 55 => ⟨S10000x10000, .f32⟩
  | 56 => ⟨S10000x10000, .f32⟩
  | 57 => ⟨S10000x10000, .f32⟩
  | 58 => ⟨S10000x10000, .f32⟩
  | 59 => ⟨S_, .f32⟩
  | 60 => ⟨S10000x10000, .f32⟩
  | 61 => ⟨S10000x10000, .f32⟩
  | 62 => ⟨S10000x10000, .f32⟩
  | 63 => ⟨S10000x10000, .f32⟩
  | 64 => ⟨S_, .f32⟩
  | 65 => ⟨S10000, .f32⟩
  | 66 => ⟨S_, .f32⟩
  | 67 => ⟨S10000, .f32⟩
  | 68 => ⟨S10000, .f32⟩
  | 69 => ⟨S_, .f32⟩
  | 70 => ⟨S_, .f32⟩
  | 71 => ⟨S_, .f32⟩
  | 72 => ⟨S_, .f32⟩
  | 73 => ⟨S10000, .f32⟩
  | 74 => ⟨S10000, .f32⟩
  | 75 => ⟨S1x10000, .f32⟩
  | 76 => ⟨S10000x1, .f32⟩
  | 77 => ⟨S10000x10000, .f32⟩
  | 78 => ⟨S10000x10000, .f32⟩
  | 79 => ⟨S10000x10000, .f32⟩
  | 80 => ⟨S10000x10000, .f32⟩
  | 81 => ⟨S10000x10000, .f32⟩
  | 82 => ⟨S_, .f32⟩
  | 83 => ⟨S10000x10000, .f32⟩
  | 84 => ⟨S10000x10000, .f32⟩
  | 85 => ⟨S10000x10000, .f32⟩
  | 86 => ⟨S10000x10000, .f32⟩
  | 87 => ⟨S1x10000, .f32⟩
  | 88 => ⟨S10000x1, .f32⟩
  | 89 => ⟨S10000x10000, .f32⟩
  | 90 => ⟨S10000x10000, .f32⟩
  | 91 => ⟨S10000x10000, .f32⟩
  | 92 => ⟨S10000x10000, .f32⟩
  | 93 => ⟨S10000x10000, .f32⟩
  | 94 => ⟨S_, .f32⟩
  | 95 => ⟨S10000x10000, .f32⟩
  | 96 => ⟨S10000x10000, .f32⟩
  | 97 => ⟨S10000x10000, .f32⟩
  | 98 => ⟨S10000x10000, .f32⟩
  | 99 => ⟨S10000x10000, .f32⟩
  | 100 => ⟨S_, .f32⟩
  | 101 => ⟨S10000, .f32⟩
  | 102 => ⟨S_, .f32⟩
  | 103 => ⟨S10000, .f32⟩
  | 104 => ⟨S10000, .f32⟩
  | 105 => ⟨S_, .f32⟩
  | 106 => ⟨S_, .f32⟩
  | 107 => ⟨S_, .f32⟩
  | 108 => ⟨S_, .f32⟩
  | 109 => ⟨S10000, .f32⟩
  | 110 => ⟨S10000, .f32⟩
  | 111 => ⟨S_, .f32⟩
  | 112 => ⟨S10000, .f32⟩
  | 113 => ⟨S10000, .f32⟩
  | 114 => ⟨S10000, .f32⟩
  | 115 => ⟨S_, .f32⟩
  | 116 => ⟨S10000, .f32⟩
  | 117 => ⟨S10000, .f32⟩
  | 118 => ⟨S10000, .f32⟩
  | 119 => ⟨S10000, .f32⟩
  | 120 => ⟨S10000, .f32⟩
  | 121 => ⟨S_, .f32⟩
  | 122 => ⟨S_, .f32⟩
  | 123 => ⟨S_, .i32⟩
  | 124 => ⟨S10000, .i32⟩
  | 125 => ⟨S10000, .i1⟩
  | 126 => ⟨S_, .i32⟩
  | 127 => ⟨S10000, .i32⟩
  | _ => ⟨S2x1x256x256, .f32⟩

abbrev hbmTy0_1 (i : Nat) : BufTy := match i % 128 with
  | 0 => ⟨S10000, .i32⟩
  | 1 => ⟨S10000, .i32⟩
  | 2 => ⟨S10000x1, .i32⟩
  | 3 => ⟨S10000, .f32⟩
  | 4 => ⟨S_, .i32⟩
  | 5 => ⟨S10000, .i32⟩
  | 6 => ⟨S10000, .i1⟩
  | 7 => ⟨S_, .i32⟩
  | 8 => ⟨S10000, .i32⟩
  | 9 => ⟨S10000, .i32⟩
  | 10 => ⟨S10000, .i32⟩
  | 11 => ⟨S10000x1, .i32⟩
  | 12 => ⟨S10000, .f32⟩
  | 13 => ⟨S_, .f32⟩
  | 14 => ⟨S_, .f32⟩
  | 15 => ⟨S_, .f32⟩
  | 16 => ⟨S1x10000, .f32⟩
  | 17 => ⟨S10000x1, .f32⟩
  | 18 => ⟨S10000x10000, .f32⟩
  | 19 => ⟨S10000x10000, .f32⟩
  | 20 => ⟨S10000x10000, .f32⟩
  | 21 => ⟨S10000x10000, .f32⟩
  | 22 => ⟨S10000x10000, .f32⟩
  | 23 => ⟨S_, .f32⟩
  | 24 => ⟨S10000x10000, .f32⟩
  | 25 => ⟨S10000x10000, .f32⟩
  | 26 => ⟨S10000x10000, .f32⟩
  | 27 => ⟨S10000x10000, .f32⟩
  | 28 => ⟨S_, .f32⟩
  | 29 => ⟨S10000, .f32⟩
  | 30 => ⟨S_, .f32⟩
  | 31 => ⟨S10000, .f32⟩
  | 32 => ⟨S10000, .f32⟩
  | 33 => ⟨S_, .f32⟩
  | 34 => ⟨S_, .f32⟩
  | 35 => ⟨S_, .f32⟩
  | 36 => ⟨S_, .f32⟩
  | 37 => ⟨S10000, .f32⟩
  | 38 => ⟨S10000, .f32⟩
  | 39 => ⟨S1x10000, .f32⟩
  | 40 => ⟨S10000x1, .f32⟩
  | 41 => ⟨S10000x10000, .f32⟩
  | 42 => ⟨S10000x10000, .f32⟩
  | 43 => ⟨S10000x10000, .f32⟩
  | 44 => ⟨S10000x10000, .f32⟩
  | 45 => ⟨S10000x10000, .f32⟩
  | 46 => ⟨S_, .f32⟩
  | 47 => ⟨S10000x10000, .f32⟩
  | 48 => ⟨S10000x10000, .f32⟩
  | 49 => ⟨S10000x10000, .f32⟩
  | 50 => ⟨S10000x10000, .f32⟩
  | 51 => ⟨S_, .f32⟩
  | 52 => ⟨S10000, .f32⟩
  | 53 => ⟨S_, .f32⟩
  | 54 => ⟨S10000, .f32⟩
  | 55 => ⟨S10000, .f32⟩
  | 56 => ⟨S_, .f32⟩
  | 57 => ⟨S_, .f32⟩
  | 58 => ⟨S_, .f32⟩
  | 59 => ⟨S_, .f32⟩
  | 60 => ⟨S10000, .f32⟩
  | 61 => ⟨S10000, .f32⟩
  | 62 => ⟨S1x10000, .f32⟩
  | 63 => ⟨S10000x1, .f32⟩
  | 64 => ⟨S10000x10000, .f32⟩
  | 65 => ⟨S10000x10000, .f32⟩
  | 66 => ⟨S10000x10000, .f32⟩
  | 67 => ⟨S10000x10000, .f32⟩
  | 68 => ⟨S10000x10000, .f32⟩
  | 69 => ⟨S_, .f32⟩
  | 70 => ⟨S10000x10000, .f32⟩
  | 71 => ⟨S10000x10000, .f32⟩
  | 72 => ⟨S10000x10000, .f32⟩
  | 73 => ⟨S10000x10000, .f32⟩
  | 74 => ⟨S1x10000, .f32⟩
  | 75 => ⟨S10000x1, .f32⟩
  | 76 => ⟨S10000x10000, .f32⟩
  | 77 => ⟨S10000x10000, .f32⟩
  | 78 => ⟨S10000x10000, .f32⟩
  | 79 => ⟨S10000x10000, .f32⟩
  | 80 => ⟨S10000x10000, .f32⟩
  | 81 => ⟨S_, .f32⟩
  | 82 => ⟨S10000x10000, .f32⟩
  | 83 => ⟨S10000x10000, .f32⟩
  | 84 => ⟨S10000x10000, .f32⟩
  | 85 => ⟨S10000x10000, .f32⟩
  | 86 => ⟨S10000x10000, .f32⟩
  | 87 => ⟨S_, .f32⟩
  | 88 => ⟨S10000, .f32⟩
  | 89 => ⟨S_, .f32⟩
  | 90 => ⟨S10000, .f32⟩
  | 91 => ⟨S10000, .f32⟩
  | 92 => ⟨S_, .f32⟩
  | 93 => ⟨S_, .f32⟩
  | 94 => ⟨S_, .f32⟩
  | 95 => ⟨S_, .f32⟩
  | 96 => ⟨S10000, .f32⟩
  | 97 => ⟨S10000, .f32⟩
  | 98 => ⟨S_, .f32⟩
  | 99 => ⟨S10000, .f32⟩
  | 100 => ⟨S10000, .f32⟩
  | 101 => ⟨S10000, .f32⟩
  | 102 => ⟨S_, .f32⟩
  | 103 => ⟨S10000, .f32⟩
  | 104 => ⟨S10000, .f32⟩
  | 105 => ⟨S10000, .f32⟩
  | 106 => ⟨S10000, .f32⟩
  | 107 => ⟨S10000, .f32⟩
  | 108 => ⟨S_, .f32⟩
  | 109 => ⟨S_, .f32⟩
  | 110 => ⟨S_, .f32⟩
  | 111 => ⟨S_, .f32⟩
  | _ => ⟨S2x1x256x256, .f32⟩

abbrev hbmTy (i : Nat) : BufTy := match i / 128 with
  | 0 => hbmTy0_0 i
  | 1 => hbmTy0_1 i
  | _ => ⟨S2x1x256x256, .f32⟩

abbrev bufTy : (tb : Table) → Fin (tcTables nBuf tb) → BufTy
  | .hbm, ⟨i, _⟩ => hbmTy i
  | _, _ => ⟨S2x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_cst_19 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_20 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_21 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_22 : Ref sig .tc := ⟨.hbm, 121, rfl⟩
abbrev main_v92 : Ref sig .tc := ⟨.hbm, 122, rfl⟩
abbrev main_c_23 : Ref sig .tc := ⟨.hbm, 123, rfl⟩
abbrev main_v93 : Ref sig .tc := ⟨.hbm, 124, rfl⟩
abbrev main_v94 : Ref sig .tc := ⟨.hbm, 125, rfl⟩
abbrev main_c_24 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_25 : Ref sig .tc := ⟨.hbm, 132, rfl⟩
abbrev main_v100 : Ref sig .tc := ⟨.hbm, 133, rfl⟩
abbrev main_v101 : Ref sig .tc := ⟨.hbm, 134, rfl⟩
abbrev main_c_26 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_27 : Ref sig .tc := ⟨.hbm, 141, rfl⟩
abbrev main_cst_28 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_29 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_30 : Ref sig .tc := ⟨.hbm, 156, rfl⟩
abbrev main_v119 : Ref sig .tc := ⟨.hbm, 157, rfl⟩
abbrev main_cst_31 : Ref sig .tc := ⟨.hbm, 158, rfl⟩
abbrev main_v120 : Ref sig .tc := ⟨.hbm, 159, rfl⟩
abbrev main_v121 : Ref sig .tc := ⟨.hbm, 160, rfl⟩
abbrev main_cst_32 : Ref sig .tc := ⟨.hbm, 161, rfl⟩
abbrev main_v122 : Ref sig .tc := ⟨.hbm, 162, rfl⟩
abbrev main_cst_33 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_34 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_35 : Ref sig .tc := ⟨.hbm, 179, rfl⟩
abbrev main_v137 : Ref sig .tc := ⟨.hbm, 180, rfl⟩
abbrev main_cst_36 : Ref sig .tc := ⟨.hbm, 181, rfl⟩
abbrev main_v138 : Ref sig .tc := ⟨.hbm, 182, rfl⟩
abbrev main_v139 : Ref sig .tc := ⟨.hbm, 183, rfl⟩
abbrev main_cst_37 : Ref sig .tc := ⟨.hbm, 184, rfl⟩
abbrev main_v140 : Ref sig .tc := ⟨.hbm, 185, rfl⟩
abbrev main_cst_38 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_39 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_40 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_41 : Ref sig .tc := ⟨.hbm, 215, rfl⟩
abbrev main_v167 : Ref sig .tc := ⟨.hbm, 216, rfl⟩
abbrev main_cst_42 : Ref sig .tc := ⟨.hbm, 217, rfl⟩
abbrev main_v168 : Ref sig .tc := ⟨.hbm, 218, rfl⟩
abbrev main_v169 : Ref sig .tc := ⟨.hbm, 219, rfl⟩
abbrev main_cst_43 : Ref sig .tc := ⟨.hbm, 220, rfl⟩
abbrev main_v170 : Ref sig .tc := ⟨.hbm, 221, rfl⟩
abbrev main_cst_44 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_45 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_cst_46 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_47 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩

abbrev nD : Nat := 1
abbrev τ : Topo := Topo.v7x

variable {F : FTy → Type} [FloatOps F]
-- ==== Proof.RunValue.lean ====
/- The run of the idealized kernel, with what its result buffer holds at the end. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The resource algebra of the launch. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result buffer holding the contents computed through all segments, and with the
    arguments as launched. -/
theorem run_result : θ_run defs (onTc (τ := τ) (main (F := F))) ⟨m, fun _ => 0, ρ⟩ (fun r => ∀ c : Dev nD,
      r.2.mem ((c.tc : Thread nD τ).loc main_v45) = W8 m ρ c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Hand

end
-- ==== Proof.Trip.lean ====
/- One trip of the row-sum kernel's loop, as the thirty-two chunks that it adds to its three accumulators one after
   another. Each chunk is sixteen rows of the column operands. -/
module

public import proofs.«01_k».proof.Proof.Gen.KernelIdeal.Loops

@[expose] public section

set_option maxRecDepth 65536

noncomputable section

namespace Cert.KernelIdeal.Hand

open Idealize.ShloMosaic Idealize.ShloMosaic.TcCoe Idealize.ShloMosaic.Tactic
open Cert.KernelIdeal Cert.KernelIdeal.Gen Idealize.SL.Sem

variable {F : FTy → Type} [FloatOps F] [Named F]

/-- The sixteen rows of a column operand that chunk `n` of trip `k` loads. -/
def chunkRows (M : Memref sig .tc .vmem S1x10240x128 .bf16) (X : BufTy.Contents (Elt F) M.view.ty)
    (k : Fin k1_t1_loop.trips) (n : Fin 32) : Vec F S1x16x128 .bf16 :=
  View.readAt (Elt F) M.view (Rect.unit (s := S1x10240x128) (k1_off1 k (BitVec.ofNat 32 (16 * n.val))) S1x16x128.size
    (k1_off1_inb k n)).toLoadRect X

/-- The first accumulator after the first `n` chunks of a trip that starts at `acc`. -/
def chainA (v : FVec F S1x512 .bf16) (cst : F .bf16) (X : Fin 32 → Vec F S1x16x128 .bf16) (acc : FVec F S8x512 .f32) :
    (n : ℕ) → n ≤ 32 → FVec F S8x512 .f32
  | 0, _ => acc
  | n + 1, h => k1_pay14 v cst (chainA v cst X acc n (Nat.le_of_succ_le h)) (X ⟨n, h⟩)

/-- The third accumulator, which adds products, after the first `n` chunks. -/
def chainAB (v w : FVec F S1x512 .bf16) (cst : F .bf16) (X Y : Fin 32 → Vec F S1x16x128 .bf16)
    (acc : FVec F S8x512 .f32) : (n : ℕ) → n ≤ 32 → FVec F S8x512 .f32
  | 0, _ => acc
  | n + 1, h => k1_pay16 v w cst (chainAB v w cst X Y acc n (Nat.le_of_succ_le h)) (X ⟨n, h⟩) (Y ⟨n, h⟩)

section
variable (𝒱 : Variants) (c : Dev nD) (bd : Option 𝒱.V) (i : grid1.Coords)
  (arg2 : Memref sig .tc .vmem S1x1x512 .bf16) (harg2 : arg2.IsWhole)
  (arg3 : Memref sig .tc .vmem S1x1x512 .bf16) (harg3 : arg3.IsWhole)
  (arg4 : Memref sig .tc .vmem S1x10240x128 .bf16) (harg4 : arg4.IsWhole)
  (arg5 : Memref sig .tc .vmem S1x10240x128 .bf16) (harg5 : arg5.IsWhole)
  (arg6 : Memref sig .tc .vmem S1x1x512 .f32) (harg6 : arg6.IsWhole)
  (arg7 : Memref sig .tc .vmem S1x1x512 .f32) (harg7 : arg7.IsWhole)
  (arg8 : Memref sig .tc .vmem S1x1x512 .f32) (harg8 : arg8.IsWhole)
  (v0 v2 : Vec F S1x1x512 .bf16) (X4 : BufTy.Contents (Elt F) arg4.view.ty) (X5 : BufTy.Contents (Elt F) arg5.view.ty)
  (k : Fin k1_t1_loop.trips) (acc : FVec F S8x512 .f32 × FVec F S8x512 .f32 × FVec F S8x512 .f32)

/-- The constant that the kernel's exponent carries. -/
abbrev factor : F .bf16 := Named.named κ "half_log2e" 0xBF39#16

/-- A trip adds the thirty-two chunks to the first accumulator. -/
theorem trip_fst :
    (tripR_k1_t1 (F := F) 𝒱 c bd i arg2 harg2 arg3 harg3 arg4 harg4 arg5 harg5 arg6 harg6 arg7 harg7 arg8 harg8 v0 v2
      factor X4 X5 k acc).1
    = chainA (k1_pay1 v0) factor (chunkRows arg4 X4 k) acc.1 32 le_rfl := by
  unfold tripR_k1_t1 trip_k1_t1
  rfl

/-- The same of the second accumulator. -/
theorem trip_snd :
    (tripR_k1_t1 (F := F) 𝒱 c bd i arg2 harg2 arg3 harg3 arg4 harg4 arg5 harg5 arg6 harg6 arg7 harg7 arg8 harg8 v0 v2
      factor X4 X5 k acc).2.1
    = chainA (k1_pay2 v2) factor (chunkRows arg5 X5 k) acc.2.1 32 le_rfl := by
  unfold tripR_k1_t1 trip_k1_t1
  rfl

/-- The third accumulator takes the chunks' products. -/
theorem trip_trd :
    (tripR_k1_t1 (F := F) 𝒱 c bd i arg2 harg2 arg3 harg3 arg4 harg4 arg5 harg5 arg6 harg6 arg7 harg7 arg8 harg8 v0 v2
      factor X4 X5 k acc).2.2
    = chainAB (k1_pay1 v0) (k1_pay2 v2) factor (chunkRows arg4 X4 k) (chunkRows arg5 X5 k) acc.2.2 32 le_rfl := by
  unfold tripR_k1_t1 trip_k1_t1
  rfl

end

end Cert.KernelIdeal.Hand

end
-- ==== Proof.Consts.lean ====
/- The float constants that the two programs spell, as the extended reals they denote, and the kernel's three named
   constants, as the reals (or infinity) that the certificate's table gives them. -/
module

public import proofs.«01_k».proof.KernelIdeal
public import Idealize.ShloMosaic.PureOps.Ideal
public import Idealize.ShloMosaic.PureOps.IdealRules

@[expose] public section

noncomputable section

namespace Cert.Consts

open Idealize.ShloMosaic

/-- The word of `0.0` denotes zero. -/
theorem ofBits_zero : Ideal.ofBits .f32 0x00000000#32 = 0 := by simp [Ideal.ofBits, Ideal.ieee]

/-- The word of `2.0` denotes the real 2. -/
theorem ofBits_two : Ideal.ofBits .f32 0x40000000#32 = ((2 : ℝ) : EReal) := by
  simp [Ideal.ofBits, Ideal.ieee, -EReal.coe_mul]; norm_num

/-- The word of `5.0` denotes the real 5. -/
theorem ofBits_five : Ideal.ofBits .f32 0x40A00000#32 = ((5 : ℝ) : EReal) := by
  simp [Ideal.ofBits, Ideal.ieee, -EReal.coe_mul]; norm_num

/-- The word of `2.5` denotes the real 5/2. -/
theorem ofBits_five_halves : Ideal.ofBits .f32 0x40200000#32 = ((5 / 2 : ℝ) : EReal) := by
  simp [Ideal.ofBits, Ideal.ieee, -EReal.coe_mul]; norm_num

/-- The word of `-0.5` denotes the real -1/2. -/
theorem ofBits_neg_half : Ideal.ofBits .f32 0xBF000000#32 = ((-1 / 2 : ℝ) : EReal) := by
  simp [Ideal.ofBits, Ideal.ieee, -EReal.coe_mul]; norm_num

/-- The word of `10000.0` denotes the real 10000. -/
theorem ofBits_tenthousand : Ideal.ofBits .f32 0x461C4000#32 = ((10000 : ℝ) : EReal) := by
  simp [Ideal.ofBits, Ideal.ieee, -EReal.coe_mul]; norm_num

/-- The small number that both programs add before a division or a logarithm: the word of `1e-10`. -/
def eps : EReal := Ideal.ofBits .f32 0x2EDBE6FF#32

/-- It is a positive real number. -/
theorem eps_pos : ∃ r : ℝ, 0 < r ∧ eps = (r : EReal) := by
  refine ⟨14411519 * 2 ^ (-57 : ℤ), by positivity, ?_⟩
  simp [eps, Ideal.ofBits, Ideal.ieee, -EReal.coe_mul]

/-- The kernel's padding value is positive infinity. -/
theorem pad : Named.named (F := Ideal) Cert.KernelIdeal.κ "pad" (φ := .f32) 0x461C4000#32 = (⊤ : EReal) :=
  IdealRules.named_const.ideal_named_scalar _ _ _ _ rfl

/-- The kernel's exponent factor is `-1/2` over the natural logarithm of 2. -/
theorem half_log2e : Named.named (F := Ideal) Cert.KernelIdeal.κ "half_log2e" (φ := .bf16) 0xBF39#16
    = (((-1 / 2) * (Real.log 2)⁻¹ : ℝ) : EReal) :=
  IdealRules.named_const.ideal_named_scalar _ _ _ _ rfl

/-- The kernel's averaging factor is one over the number of samples. -/
theorem inv_n : Named.named (F := Ideal) Cert.KernelIdeal.κ "inv_n" (φ := .f32) 0x38D1B717#32
    = ((1 / 10000 : ℝ) : EReal) :=
  IdealRules.named_const.ideal_named_scalar _ _ _ _ rfl

end Cert.Consts

end
-- ==== Proof.Gauss.lean ====
/- The scalar mathematics on the extended reals: the kernel's power of two of a scaled square is the reference's
   Gaussian of a quotient; a padding value contributes nothing; a mean by a product is a mean by a quotient. -/
module

public import Idealize.ShloMosaic.PureOps.Ideal

@[expose] public section

noncomputable section

namespace Cert.Gauss

open Idealize.ShloMosaic

/-- The Gaussian weight of two values as the reference writes it: the exponential of `-1/2` times the squared
    difference over the width 2/5. -/
def gauss (x y : EReal) : EReal :=
  Ideal.exp ((((-1 / 2 : ℝ) : EReal) * Ideal.div (x - y) ((2 / 5 : ℝ) : EReal)) * Ideal.div (x - y) ((2 / 5 : ℝ) : EReal))

/-- The kernel's weight of two values that are already scaled: two to the power of the scaled square. -/
def pow2 (u v : EReal) : EReal :=
  Ideal.exp2 (((u - v) * (u - v)) * (((-1 / 2) * (Real.log 2)⁻¹ : ℝ) : EReal))

/-- The kernel's exponent factor is negative. -/
theorem factor_neg : ((-1 / 2) * (Real.log 2)⁻¹ : ℝ) < 0 :=
  mul_neg_of_neg_of_pos (by norm_num) (inv_pos.mpr (Real.log_pos (by norm_num)))

/-- The product of positive infinity and the exponent factor is negative infinity. -/
theorem top_mul_factor : (⊤ : EReal) * (((-1 / 2) * (Real.log 2)⁻¹ : ℝ) : EReal) = ⊥ :=
  EReal.top_mul_coe_of_neg factor_neg

/-- A difference that is infinite has weight zero: its square is positive infinity. -/
theorem exp2_sq_top : Ideal.exp2 (((⊤ : EReal) * ⊤) * (((-1 / 2) * (Real.log 2)⁻¹ : ℝ) : EReal)) = 0 := by
  rw [EReal.top_mul_top, top_mul_factor, Ideal.exp2_bot]

/-- The same of the negative infinity. -/
theorem exp2_sq_bot : Ideal.exp2 (((⊥ : EReal) * ⊥) * (((-1 / 2) * (Real.log 2)⁻¹ : ℝ) : EReal)) = 0 := by
  rw [EReal.bot_mul_bot, top_mul_factor, Ideal.exp2_bot]

/-- A padding value weighs nothing against any value. -/
theorem pow2_top (v : EReal) : pow2 ⊤ v = 0 := by
  unfold pow2
  induction v with
  | bot => rw [EReal.top_sub_bot]; exact exp2_sq_top
  | coe r => rw [EReal.top_sub_coe]; exact exp2_sq_top
  | top => rw [EReal.sub_top]; exact exp2_sq_bot

/-- Division by the width is multiplication by 5/2. -/
theorem div_width (x : EReal) : Ideal.div x ((2 / 5 : ℝ) : EReal) = x * ((5 / 2 : ℝ) : EReal) := by
  rw [Ideal.div_coe (by norm_num)]; norm_num

/-- A common positive factor comes out of a difference, at infinities too. -/
theorem sub_scale (x y : EReal) :
    x * ((5 / 2 : ℝ) : EReal) - y * ((5 / 2 : ℝ) : EReal) = (x - y) * ((5 / 2 : ℝ) : EReal) := by
  have h : (0 : ℝ) < 5 / 2 := by norm_num
  induction x with
  | bot => rw [EReal.bot_mul_coe_of_pos h, EReal.bot_sub, EReal.bot_sub, EReal.bot_mul_coe_of_pos h]
  | coe r =>
    induction y with
    | bot => rw [EReal.bot_mul_coe_of_pos h, ← EReal.coe_mul, EReal.coe_sub_bot, EReal.coe_sub_bot, EReal.top_mul_coe_of_pos h]
    | coe s => rw [← EReal.coe_mul, ← EReal.coe_mul, ← EReal.coe_sub, ← EReal.coe_sub, ← EReal.coe_mul]; congr 1; ring
    | top => rw [EReal.top_mul_coe_of_pos h, EReal.sub_top, EReal.sub_top, EReal.bot_mul_coe_of_pos h]
  | top =>
    induction y with
    | bot => rw [EReal.bot_mul_coe_of_pos h, EReal.top_mul_coe_of_pos h, EReal.top_sub_bot, EReal.top_mul_coe_of_pos h]
    | coe s => rw [EReal.top_mul_coe_of_pos h, ← EReal.coe_mul, EReal.top_sub_coe, EReal.top_sub_coe, EReal.top_mul_coe_of_pos h]
    | top => rw [EReal.top_mul_coe_of_pos h, EReal.sub_top, EReal.bot_mul_coe_of_pos h]

/-- Two to the power of `t` times the exponent factor is the exponential of `-t/2`, written as the two programs
    write it. -/
theorem exp2_sq (d : EReal) :
    Ideal.exp2 ((d * d) * (((-1 / 2) * (Real.log 2)⁻¹ : ℝ) : EReal)) = Ideal.exp ((((-1 / 2 : ℝ) : EReal) * d) * d) := by
  have h : (-1 / 2 : ℝ) < 0 := by norm_num
  induction d with
  | bot => rw [exp2_sq_bot, EReal.coe_mul_bot_of_neg h, EReal.top_mul_bot, Ideal.exp_bot]
  | coe r =>
    rw [← EReal.coe_mul, ← EReal.coe_mul, ← EReal.coe_mul, ← EReal.coe_mul, Ideal.exp2_coe, Ideal.exp_coe]
    congr 1
    refine (Real.rpow_def_of_pos (x := 2) (by norm_num) _).trans (congrArg Real.exp ?_)
    have : Real.log 2 ≠ 0 := (Real.log_pos (by norm_num)).ne'
    field_simp
  | top => rw [exp2_sq_top, EReal.coe_mul_top_of_neg h, EReal.bot_mul_top, Ideal.exp_bot]

/-- The kernel's weight of two scaled values is the reference's Gaussian of the values. -/
theorem pow2_eq_gauss (x y : EReal) :
    pow2 (x * ((5 / 2 : ℝ) : EReal)) (y * ((5 / 2 : ℝ) : EReal)) = gauss x y := by
  unfold pow2 gauss
  rw [sub_scale, exp2_sq, div_width]

/-- A power of two is not negative. -/
theorem exp2_nonneg (x : EReal) : 0 ≤ Ideal.exp2 x := by
  induction x with
  | bot => rw [Ideal.exp2_bot]
  | coe r => rw [Ideal.exp2_coe]; exact EReal.coe_nonneg.mpr (Real.rpow_nonneg (by norm_num) r)
  | top => rw [Ideal.exp2_top]; exact le_top

/-- The Gaussian weight is not negative. -/
theorem gauss_nonneg (x y : EReal) : 0 ≤ gauss x y := by
  rw [← pow2_eq_gauss]; exact exp2_nonneg _

/-- A mean of ten thousand by a quotient is a mean by a product. -/
theorem div_count (x : EReal) : Ideal.div x ((10000 : ℝ) : EReal) = x * ((1 / 10000 : ℝ) : EReal) := by
  rw [Ideal.div_coe (by norm_num)]

/-- Zero over anything that is not zero is zero. -/
theorem zero_div (x : EReal) (h : x ≠ 0) : Ideal.div 0 x = 0 := by
  unfold Ideal.div; rw [if_neg h, zero_mul]

end Cert.Gauss

end
-- ==== Proof.Chunk.lean ====
/- What one chunk of the row-sum kernel adds, at an index, on the extended reals. -/
module

public import proofs.«01_k».proof.Proof.Trip
public import proofs.«01_k».proof.Proof.Consts
public import proofs.«01_k».proof.Proof.Gauss
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Gauss

/-- The lane of a 128-lane block that lane `l` of four such blocks side by side is. -/
abbrev lane (l : Fin 512) : Fin 128 := ⟨l.val % 128, Nat.mod_lt _ (by decide)⟩

/-- Four copies of a block side by side, read at lane `l`: the block at the lane of `l`. -/
theorem four_copies {α : Type} (f : Fin 128 → α) (l : Fin 512) :
    (if h : l.val < 128 then f ⟨l.val, h⟩
      else if h : l.val - 128 < 128 then f ⟨l.val - 128, h⟩
      else if h : l.val - 128 - 128 < 128 then f ⟨l.val - 128 - 128, h⟩
      else f ⟨l.val - 128 - 128 - 128, by omega⟩) = f (lane l) := by
  split_ifs <;> refine congrArg f (Fin.ext ?_) <;> show _ = l.val % 128 <;> dsimp only <;> omega

/-- A row and a column block against each other, at row `a` of the chunk and lane `l`. -/
theorem weights_apply (v : FVec Ideal S1x512 .bf16) (x : Vec Ideal S1x16x128 .bf16) (a : Fin 16) (l : Fin 512) :
    k1_pay12 v factor x (ix2 a l) = pow2 (x (ix3 0 a (lane l))) (v (ix2 0 l)) := by
  pointwise [k1_pay12]
  rw [four_copies (fun q => x (ix3 0 a q)) l, show (factor : Ideal .bf16) = _ from Consts.half_log2e]
  rfl

/-- Row `u` of the two that sublane `r` of an accumulator takes from a chunk. -/
abbrev rowOf (u : Fin 2) (r : Fin 8) : Fin 16 := ⟨u.val * 8 + r.val, by omega⟩

/-- The first accumulator after a chunk: the weights of two of its rows are added. -/
theorem pay14_apply (v : FVec Ideal S1x512 .bf16) (acc : FVec Ideal S8x512 .f32) (x : Vec Ideal S1x16x128 .bf16)
    (r : Fin 8) (l : Fin 512) :
    k1_pay14 v factor acc x (ix2 r l)
      = acc (ix2 r l) + ∑ u : Fin 2, pow2 (x (ix3 0 (rowOf u r) (lane l))) (v (ix2 0 l)) := by
  simp only [← weights_apply v x]
  pointwise [k1_pay14]

/-- The third accumulator after a chunk: the products of the weights of two rows are added. -/
theorem pay16_apply (v w : FVec Ideal S1x512 .bf16) (acc : FVec Ideal S8x512 .f32) (x y : Vec Ideal S1x16x128 .bf16)
    (r : Fin 8) (l : Fin 512) :
    k1_pay16 v w factor acc x y (ix2 r l)
      = acc (ix2 r l) + ∑ u : Fin 2, pow2 (x (ix3 0 (rowOf u r) (lane l))) (v (ix2 0 l))
          * pow2 (y (ix3 0 (rowOf u r) (lane l))) (w (ix2 0 l)) := by
  simp only [← weights_apply v x, ← show ∀ a l, k1_pay13 w factor y (ix2 a l) = _ from weights_apply w y]
  pointwise [k1_pay16]

/-- The first accumulator after `n` chunks: two rows of each have been added. -/
theorem chainA_apply (v : FVec Ideal S1x512 .bf16) (X : Fin 32 → Vec Ideal S1x16x128 .bf16)
    (acc : FVec Ideal S8x512 .f32) (r : Fin 8) (l : Fin 512) (n : ℕ) (h : n ≤ 32) :
    chainA v factor X acc n h (ix2 r l)
      = acc (ix2 r l) + ∑ q : Fin n, ∑ u : Fin 2,
          pow2 (X ⟨q.val, q.isLt.trans_le h⟩ (ix3 0 (rowOf u r) (lane l))) (v (ix2 0 l)) := by
  induction n with
  | zero => rw [chainA, Fin.sum_univ_zero, add_zero]
  | succ n ih =>
    rw [chainA, pay14_apply, ih, Fin.sum_univ_castSucc (n := n), ← add_assoc]
    rfl

/-- The third accumulator after `n` chunks. -/
theorem chainAB_apply (v w : FVec Ideal S1x512 .bf16) (X Y : Fin 32 → Vec Ideal S1x16x128 .bf16)
    (acc : FVec Ideal S8x512 .f32) (r : Fin 8) (l : Fin 512) (n : ℕ) (h : n ≤ 32) :
    chainAB v w factor X Y acc n h (ix2 r l)
      = acc (ix2 r l) + ∑ q : Fin n, ∑ u : Fin 2,
          pow2 (X ⟨q.val, q.isLt.trans_le h⟩ (ix3 0 (rowOf u r) (lane l))) (v (ix2 0 l))
          * pow2 (Y ⟨q.val, q.isLt.trans_le h⟩ (ix3 0 (rowOf u r) (lane l))) (w (ix2 0 l)) := by
  induction n with
  | zero => rw [chainAB, Fin.sum_univ_zero, add_zero]
  | succ n ih =>
    rw [chainAB, pay16_apply, ih, Fin.sum_univ_castSucc (n := n), ← add_assoc]
    rfl

end Cert.KernelIdeal.Hand

end
-- ==== Proof.Loop.lean ====
/- What the row-sum kernel leaves in its three output blocks at one grid point: at each lane the sum of the weights, or
   of the products of weights, over all the rows of the column operands. -/
module

public import proofs.«01_k».proof.Proof.Chunk
public import proofs.«01_k».proof.Proof.Gen.KernelIdeal.Frame
public import Idealize.ShloMosaic.Lib.WholeRead
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Gauss

/-- The row that sublane `r` of an accumulator takes as number `u` from chunk `q` of trip `t`. -/
abbrev rowAt (t : Fin 20) (q : Fin 32) (u : Fin 2) (r : Fin 8) : Fin 10240 :=
  ⟨512 * t.val + 16 * q.val + (u.val * 8 + r.val), by omega⟩

/-- Every row is taken once. -/
def rowsEquiv : (Fin 8 × Fin 20 × Fin 32 × Fin 2) ≃ Fin 10240 where
  toFun x := rowAt x.2.1 x.2.2.1 x.2.2.2 x.1
  invFun j := (⟨j.val % 8, by omega⟩, ⟨j.val / 512, by omega⟩, ⟨j.val % 512 / 16, by omega⟩, ⟨j.val % 16 / 8, by omega⟩)
  left_inv x := by
    obtain ⟨r, t, q, u⟩ := x
    refine Prod.ext (Fin.ext ?_) (Prod.ext (Fin.ext ?_) (Prod.ext (Fin.ext ?_) (Fin.ext ?_))) <;> dsimp only <;> omega
  right_inv j := Fin.ext (by dsimp only; omega)

/-- So a sum in the kernel's order is the sum over the rows. -/
theorem sum_rows (f : Fin 10240 → EReal) :
    ∑ r : Fin 8, ∑ t : Fin 20, ∑ q : Fin 32, ∑ u : Fin 2, f (rowAt t q u r) = ∑ j, f j := by
  rw [← rowsEquiv.sum_comp f, Fintype.sum_prod_type]
  refine Finset.sum_congr rfl fun r _ => ?_
  rw [Fintype.sum_prod_type]
  refine Finset.sum_congr rfl fun t _ => ?_
  rw [Fintype.sum_prod_type]
  rfl

/-- A value that starts at zero and has `g t` added by trip `t` ends as the sum of `g`. -/
theorem fold_sum (A : ℕ → EReal) (g : ℕ → EReal) (N : ℕ) (h0 : A 0 = 0) (hs : ∀ k < N, A (k + 1) = A k + g k) :
    A N = ∑ t : Fin N, g t.val := by
  induction N with
  | zero => rw [h0, Fin.sum_univ_zero]
  | succ N ih => rw [hs N (Nat.lt_succ_self N), ih fun k hk => hs k (hk.trans (Nat.lt_succ_self N)), Fin.sum_univ_castSucc]; rfl

/-- The loop makes twenty trips. -/
theorem trips_eq : k1_t1_loop.trips = 20 := by decide +kernel

/-- A chunk's row `a` is row `512 k + 16 n + a` of the operand. -/
theorem chunkRows_apply (M : Memref sig .tc .vmem S1x10240x128 .bf16) (hM : M.IsWhole) (X : Vec Ideal S1x10240x128 .bf16)
    (k : Fin k1_t1_loop.trips) (hk : k.val < 20) (n : Fin 32) (a : Fin 16) (b : Fin 128) :
    chunkRows (F := Ideal) M (hM.unread X) k n (ix3 0 a b) = X (ix3 0 ⟨512 * k.val + 16 * n.val + a.val, by omega⟩ b) := by
  unfold chunkRows
  rw [hM.readAt_unread]
  refine congrArg X (funext fun d => Fin.ext ?_)
  show k1_off1 k (BitVec.ofNat 32 (16 * n.val)) d + 1 * ((ix3 0 a b : S1x16x128.Idx) d).val = _
  rw [k1_off1_eq]
  fin_cases d
  · rfl
  · show 512 * k.val + 16 * n.val + 1 * a.val = 512 * k.val + 16 * n.val + a.val; omega
  · show 0 + 1 * b.val = b.val; omega

/-- A row block as a vector of lanes. -/
theorem pay1_apply (v : Vec Ideal S1x1x512 .bf16) (l : Fin 512) : k1_pay1 v (ix2 0 l) = v (ix3 0 0 l) := by
  pointwise [k1_pay1]

/-- The same of the second image. -/
theorem pay2_apply (v : Vec Ideal S1x1x512 .bf16) (l : Fin 512) : k1_pay2 v (ix2 0 l) = v (ix3 0 0 l) := by
  pointwise [k1_pay2]

/-- The accumulators start at zero. -/
theorem pay3_apply (r : Fin 8) (l : Fin 512) : (k1_pay3 (F := Ideal)) (ix2 r l) = 0 := by
  pointwise [k1_pay3]

/-- The eight sublanes are added at the end. -/
theorem pay9_apply (x : FVec Ideal S8x512 .f32) (l : Fin 512) : k1_pay9 x (ix3 0 0 l) = ∑ r : Fin 8, x (ix2 r l) := by
  pointwise [k1_pay9]

section
variable (c : Dev nD) (bd : Option Variants.none.V) (i : grid1.Coords)
  (arg2 : Memref sig .tc .vmem S1x1x512 .bf16) (harg2 : arg2.IsWhole)
  (arg3 : Memref sig .tc .vmem S1x1x512 .bf16) (harg3 : arg3.IsWhole)
  (arg4 : Memref sig .tc .vmem S1x10240x128 .bf16) (harg4 : arg4.IsWhole)
  (arg5 : Memref sig .tc .vmem S1x10240x128 .bf16) (harg5 : arg5.IsWhole)
  (arg6 : Memref sig .tc .vmem S1x1x512 .f32) (harg6 : arg6.IsWhole)
  (arg7 : Memref sig .tc .vmem S1x1x512 .f32) (harg7 : arg7.IsWhole)
  (arg8 : Memref sig .tc .vmem S1x1x512 .f32) (harg8 : arg8.IsWhole)
  (x0 x1 : Vec Ideal S1x1x512 .bf16) (x2 x3 : Vec Ideal S1x10240x128 .bf16)

/-- What the loop carries after `n` trips. -/
abbrev carried (n : ℕ) : FVec Ideal S8x512 .f32 × FVec Ideal S8x512 .f32 × FVec Ideal S8x512 .f32 :=
  st_k1_t1 (F := Ideal) Variants.none c bd i arg2 harg2 arg3 harg3 arg4 harg4 arg5 harg5 arg6 harg6 arg7 harg7 arg8 harg8
    x0 x1 factor (harg4.unread x2) (harg5.unread x3) (k1_pay3, k1_pay3, k1_pay3) n

/-- The first accumulator after the loop. -/
theorem carried_fst (r : Fin 8) (l : Fin 512) :
    (carried c bd i arg2 harg2 arg3 harg3 arg4 harg4 arg5 harg5 arg6 harg6 arg7 harg7 arg8 harg8 x0 x1 x2 x3 20).1 (ix2 r l)
      = ∑ t : Fin 20, ∑ q : Fin 32, ∑ u : Fin 2, pow2 (x2 (ix3 0 (rowAt t q u r) (lane l))) (x0 (ix3 0 0 l)) := by
  refine (fold_sum (fun n => (carried c bd i arg2 harg2 arg3 harg3 arg4 harg4 arg5 harg5 arg6 harg6 arg7 harg7 arg8 harg8
      x0 x1 x2 x3 n).1 (ix2 r l)) (fun n => if h : n < 20 then ∑ q : Fin 32, ∑ u : Fin 2,
        pow2 (x2 (ix3 0 (rowAt ⟨n, h⟩ q u r) (lane l))) (x0 (ix3 0 0 l)) else 0) 20 (pay3_apply r l) fun k hk => ?_).trans
    (Finset.sum_congr rfl fun t _ => dif_pos t.isLt)
  have hk' : k < k1_t1_loop.trips := hk.trans_eq trips_eq.symm
  dsimp only [carried]
  rw [st_k1_t1_succ _ _ _ _ _ _ _ _ _ _ _ _ _ _ _ _ _ _ _ _ _ _ _ _ ⟨k, hk'⟩, trip_fst, chainA_apply, dif_pos hk]
  refine congrArg _ (Finset.sum_congr rfl fun q _ => Finset.sum_congr rfl fun u _ => ?_)
  rw [chunkRows_apply arg4 harg4 x2 ⟨k, hk'⟩ hk, pay1_apply]

/-- The second accumulator after the loop. -/
theorem carried_snd (r : Fin 8) (l : Fin 512) :
    (carried c bd i arg2 harg2 arg3 harg3 arg4 harg4 arg5 harg5 arg6 harg6 arg7 harg7 arg8 harg8 x0 x1 x2 x3 20).2.1 (ix2 r l)
      = ∑ t : Fin 20, ∑ q : Fin 32, ∑ u : Fin 2, pow2 (x3 (ix3 0 (rowAt t q u r) (lane l))) (x1 (ix3 0 0 l)) := by
  refine (fold_sum (fun n => (carried c bd i arg2 harg2 arg3 harg3 arg4 harg4 arg5 harg5 arg6 harg6 arg7 harg7 arg8 harg8
      x0 x1 x2 x3 n).2.1 (ix2 r l)) (fun n => if h : n < 20 then ∑ q : Fin 32, ∑ u : Fin 2,
        pow2 (x3 (ix3 0 (rowAt ⟨n, h⟩ q u r) (lane l))) (x1 (ix3 0 0 l)) else 0) 20 (pay3_apply r l) fun k hk => ?_).trans
    (Finset.sum_congr rfl fun t _ => dif_pos t.isLt)
  have hk' : k < k1_t1_loop.trips := hk.trans_eq trips_eq.symm
  dsimp only [carried]
  rw [st_k1_t1_succ _ _ _ _ _ _ _ _ _ _ _ _ _ _ _ _ _ _ _ _ _ _ _ _ ⟨k, hk'⟩, trip_snd, chainA_apply, dif_pos hk]
  refine congrArg _ (Finset.sum_congr rfl fun q _ => Finset.sum_congr rfl fun u _ => ?_)
  rw [chunkRows_apply arg5 harg5 x3 ⟨k, hk'⟩ hk, pay2_apply]

/-- The third accumulator after the loop. -/
theorem carried_trd (r : Fin 8) (l : Fin 512) :
    (carried c bd i arg2 harg2 arg3 harg3 arg4 harg4 arg5 harg5 arg6 harg6 arg7 harg7 arg8 harg8 x0 x1 x2 x3 20).2.2 (ix2 r l)
      = ∑ t : Fin 20, ∑ q : Fin 32, ∑ u : Fin 2, pow2 (x2 (ix3 0 (rowAt t q u r) (lane l))) (x0 (ix3 0 0 l))
          * pow2 (x3 (ix3 0 (rowAt t q u r) (lane l))) (x1 (ix3 0 0 l)) := by
  refine (fold_sum (fun n => (carried c bd i arg2 harg2 arg3 harg3 arg4 harg4 arg5 harg5 arg6 harg6 arg7 harg7 arg8 harg8
      x0 x1 x2 x3 n).2.2 (ix2 r l)) (fun n => if h : n < 20 then ∑ q : Fin 32, ∑ u : Fin 2,
        pow2 (x2 (ix3 0 (rowAt ⟨n, h⟩ q u r) (lane l))) (x0 (ix3 0 0 l))
          * pow2 (x3 (ix3 0 (rowAt ⟨n, h⟩ q u r) (lane l))) (x1 (ix3 0 0 l)) else 0) 20 (pay3_apply r l) fun k hk => ?_).trans
    (Finset.sum_congr rfl fun t _ => dif_pos t.isLt)
  have hk' : k < k1_t1_loop.trips := hk.trans_eq trips_eq.symm
  dsimp only [carried]
  rw [st_k1_t1_succ _ _ _ _ _ _ _ _ _ _ _ _ _ _ _ _ _ _ _ _ _ _ _ _ ⟨k, hk'⟩, trip_trd, chainAB_apply, dif_pos hk]
  refine congrArg _ (Finset.sum_congr rfl fun q _ => Finset.sum_congr rfl fun u _ => ?_)
  rw [chunkRows_apply arg4 harg4 x2 ⟨k, hk'⟩ hk, chunkRows_apply arg5 harg5 x3 ⟨k, hk'⟩ hk, pay1_apply, pay2_apply]

end

end Cert.KernelIdeal.Hand

end
-- ==== Proof.Block.lean ====
/- The three output blocks of the row-sum kernel at one grid point, at a lane. -/
module

public import proofs.«01_k».proof.Proof.Loop

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Gauss

/-- The zero offsets of a load or store of a whole row block. -/
theorem zero3 : (![0, 0, 0] : Fin 3 → Nat) = fun _ => 0 := funext fun a => by fin_cases a <;> rfl

variable (c : Dev nD) (i : grid1.Coords)
  (arg2 : Memref sig .tc .vmem S1x1x512 .bf16) (harg2 : arg2.IsWhole)
  (arg3 : Memref sig .tc .vmem S1x1x512 .bf16) (harg3 : arg3.IsWhole)
  (arg4 : Memref sig .tc .vmem S1x10240x128 .bf16) (harg4 : arg4.IsWhole)
  (arg5 : Memref sig .tc .vmem S1x10240x128 .bf16) (harg5 : arg5.IsWhole)
  (arg6 : Memref sig .tc .vmem S1x1x512 .f32) (harg6 : arg6.IsWhole)
  (arg7 : Memref sig .tc .vmem S1x1x512 .f32) (harg7 : arg7.IsWhole)
  (arg8 : Memref sig .tc .vmem S1x1x512 .f32) (harg8 : arg8.IsWhole)
  (x0 x1 : Vec Ideal S1x1x512 .bf16) (x2 x3 : Vec Ideal S1x10240x128 .bf16)

/-- The first output block is the reduced first accumulator of the whole loop. -/
theorem out4_eq :
    out1_A_4 (F := Ideal) c i arg2 harg2 arg3 harg3 arg4 harg4 arg5 harg5 arg6 harg6 arg7 harg7 arg8 harg8 x0 x1 x2 x3
      = k1_pay9 (carried c none i arg2 harg2 arg3 harg3 arg4 harg4 arg5 harg5 arg6 harg6 arg7 harg7 arg8 harg8 x0 x1 x2 x3 20).1 := by
  unfold out1_A_4
  rw [View.read_writes_eq_canon _ _ _ (cover1_A_4 c i arg2 harg2 arg3 harg3 arg4 harg4 arg5 harg5 arg6 harg6 arg7 harg7 arg8 harg8 x0 x1 x2 x3)]
  unfold kernelRun1_A
  dsimp only
  sl_unfold_words
  rw [View.canon_unit_zero zero3]
  simp only [View.readAt_eq_ld, harg2.read_unread, harg3.read_unread, View.ld_unit_zero (S := S1x1x512) zero3]
  rfl

/-- The second output block. -/
theorem out5_eq :
    out1_A_5 (F := Ideal) c i arg2 harg2 arg3 harg3 arg4 harg4 arg5 harg5 arg6 harg6 arg7 harg7 arg8 harg8 x0 x1 x2 x3
      = k1_pay9 (carried c none i arg2 harg2 arg3 harg3 arg4 harg4 arg5 harg5 arg6 harg6 arg7 harg7 arg8 harg8 x0 x1 x2 x3 20).2.1 := by
  unfold out1_A_5
  rw [View.read_writes_eq_canon _ _ _ (cover1_A_5 c i arg2 harg2 arg3 harg3 arg4 harg4 arg5 harg5 arg6 harg6 arg7 harg7 arg8 harg8 x0 x1 x2 x3)]
  unfold kernelRun1_A
  dsimp only
  sl_unfold_words
  rw [View.canon_unit_zero zero3]
  simp only [View.readAt_eq_ld, harg2.read_unread, harg3.read_unread, View.ld_unit_zero (S := S1x1x512) zero3]
  rfl

/-- The third output block. -/
theorem out6_eq :
    out1_A_6 (F := Ideal) c i arg2 harg2 arg3 harg3 arg4 harg4 arg5 harg5 arg6 harg6 arg7 harg7 arg8 harg8 x0 x1 x2 x3
      = k1_pay9 (carried c none i arg2 harg2 arg3 harg3 arg4 harg4 arg5 harg5 arg6 harg6 arg7 harg7 arg8 harg8 x0 x1 x2 x3 20).2.2 := by
  unfold out1_A_6
  rw [View.read_writes_eq_canon _ _ _ (cover1_A_6 c i arg2 harg2 arg3 harg3 arg4 harg4 arg5 harg5 arg6 harg6 arg7 harg7 arg8 harg8 x0 x1 x2 x3)]
  unfold kernelRun1_A
  dsimp only
  sl_unfold_words
  rw [View.canon_unit_zero zero3]
  simp only [View.readAt_eq_ld, harg2.read_unread, harg3.read_unread, View.ld_unit_zero (S := S1x1x512) zero3]
  rfl

/-- At a lane the first block holds the sum over all rows of the weights against that lane's value. -/
theorem out4_apply (l : Fin 512) :
    out1_A_4 (F := Ideal) c i arg2 harg2 arg3 harg3 arg4 harg4 arg5 harg5 arg6 harg6 arg7 harg7 arg8 harg8 x0 x1 x2 x3 (ix3 0 0 l)
      = ∑ j : Fin 10240, pow2 (x2 (ix3 0 j (lane l))) (x0 (ix3 0 0 l)) := by
  rw [out4_eq, pay9_apply, ← sum_rows]
  exact Finset.sum_congr rfl fun r _ => carried_fst ..

/-- The same of the second image. -/
theorem out5_apply (l : Fin 512) :
    out1_A_5 (F := Ideal) c i arg2 harg2 arg3 harg3 arg4 harg4 arg5 harg5 arg6 harg6 arg7 harg7 arg8 harg8 x0 x1 x2 x3 (ix3 0 0 l)
      = ∑ j : Fin 10240, pow2 (x3 (ix3 0 j (lane l))) (x1 (ix3 0 0 l)) := by
  rw [out5_eq, pay9_apply, ← sum_rows]
  exact Finset.sum_congr rfl fun r _ => carried_snd ..

/-- The third block sums the products. -/
theorem out6_apply (l : Fin 512) :
    out1_A_6 (F := Ideal) c i arg2 harg2 arg3 harg3 arg4 harg4 arg5 harg5 arg6 harg6 arg7 harg7 arg8 harg8 x0 x1 x2 x3 (ix3 0 0 l)
      = ∑ j : Fin 10240, pow2 (x2 (ix3 0 j (lane l))) (x0 (ix3 0 0 l)) * pow2 (x3 (ix3 0 j (lane l))) (x1 (ix3 0 0 l)) := by
  rw [out6_eq, pay9_apply,
    ← sum_rows fun j => pow2 (x2 (ix3 0 j (lane l))) (x0 (ix3 0 0 l)) * pow2 (x3 (ix3 0 j (lane l))) (x1 (ix3 0 0 l))]
  exact Finset.sum_congr rfl fun r _ => carried_trd ..

end Cert.KernelIdeal.Hand

end
-- ==== Proof.RowSums.lean ====
/- What the three arrays of row sums hold after the row-sum kernel's grid. -/
module

public import proofs.«01_k».proof.Proof.Block
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Gauss

variable (V : (c : Dev nD) → (b : Ref sig .tc) → Buf (Elt Ideal) ((c : Thread nD τ).loc b))

/-- The lane of the column operand that a place of a row belongs to. -/
abbrev laneOf (l : Fin 10240) : Fin 128 := ⟨l.val % 128, Nat.mod_lt _ (by decide)⟩

/-- The weights of image `p` at place `l`, over all rows, summed. -/
def sumOne (x : S2x10240x128.Idx → EReal) (v : S2x1x10240.Idx → EReal) (p : Fin 2) (l : Fin 10240) : EReal :=
  ∑ j : Fin 10240, pow2 (x (ix3 p j (laneOf l))) (v (ix3 p 0 l))

/-- The image of a grid point. -/
abbrev imageOf (t : Fin cfg1.N) : Fin 2 := ⟨t.val / 20, by have h : t.val < 40 := t.isLt; omega⟩

/-- The place that lane `l` of a grid point's row block is. -/
abbrev placeOf (t : Fin cfg1.N) (l : Fin 512) : Fin 10240 := ⟨512 * (t.val % 20) + l.val, by omega⟩

/-- The row block of a grid point. -/
theorem index_row : ∀ t : Fin cfg1.N, win1_0.index t 0 = t.val / 20 ∧ win1_0.index t 1 = 0 ∧ win1_0.index t 2 = t.val % 20 :=
  (by decide +kernel : ∀ t : Fin grid1.N, win1_0.index t 0 = t.val / 20 ∧ win1_0.index t 1 = 0 ∧ win1_0.index t 2 = t.val % 20)

/-- The column block of a grid point. -/
theorem index_col : ∀ t : Fin cfg1.N, win1_2.index t 0 = t.val / 20 ∧ win1_2.index t 1 = 0 ∧ win1_2.index t 2 = 0 :=
  (by decide +kernel : ∀ t : Fin grid1.N, win1_2.index t 0 = t.val / 20 ∧ win1_2.index t 1 = 0 ∧ win1_2.index t 2 = 0)

/-- A row block of the first image read at a lane. -/
theorem row_block0 (c : Dev nD) (t : Fin cfg1.N) (l : Fin 512) :
    iblk1 V c 0 t (ix3 0 0 l) = V c main_call0_v1 (ix3 (imageOf t) 0 (placeOf t l)) := by
  obtain ⟨h0, h1, h2⟩ := index_row t
  blk_ext [iblk1, h0, h1, h2]

/-- A row block of the second image read at a lane. -/
theorem row_block1 (c : Dev nD) (t : Fin cfg1.N) (l : Fin 512) :
    iblk1 V c 1 t (ix3 0 0 l) = V c main_call0_v3 (ix3 (imageOf t) 0 (placeOf t l)) := by
  obtain ⟨h0, h1, h2⟩ : win1_1.index t 0 = t.val / 20 ∧ win1_1.index t 1 = 0 ∧ win1_1.index t 2 = t.val % 20 := index_row t
  blk_ext [iblk1, h0, h1, h2]

/-- A column block of the first image read at a row and a lane. -/
theorem col_block2 (c : Dev nD) (t : Fin cfg1.N) (j : Fin 10240) (b : Fin 128) :
    iblk1 V c 2 t (ix3 0 j b) = V c main_call0_v6 (ix3 (imageOf t) j b) := by
  obtain ⟨h0, h1, h2⟩ := index_col t
  blk_ext [iblk1, h0, h1, h2]

/-- A column block of the second image read at a row and a lane. -/
theorem col_block3 (c : Dev nD) (t : Fin cfg1.N) (j : Fin 10240) (b : Fin 128) :
    iblk1 V c 3 t (ix3 0 j b) = V c main_call0_v9 (ix3 (imageOf t) j b) := by
  obtain ⟨h0, h1, h2⟩ : win1_3.index t 0 = t.val / 20 ∧ win1_3.index t 1 = 0 ∧ win1_3.index t 2 = 0 := index_col t
  blk_ext [iblk1, h0, h1, h2]

/-- The sums of products of weights. -/
def sumTwo (x y : S2x10240x128.Idx → EReal) (v w : S2x1x10240.Idx → EReal) (p : Fin 2) (l : Fin 10240) : EReal :=
  ∑ j : Fin 10240, pow2 (x (ix3 p j (laneOf l))) (v (ix3 p 0 l)) * pow2 (y (ix3 p j (laneOf l))) (w (ix3 p 0 l))

/-- A lane of a row block and the place it stands at have the same lane of the column operand. -/
theorem lane_place (t : Fin cfg1.N) (l : Fin 512) : lane l = laneOf (placeOf t l) :=
  Fin.ext (by show l.val % 128 = (512 * (t.val % 20) + l.val) % 128; omega)

/-- The first output block at a lane. -/
theorem outs4 (c : Dev nD) (t : Fin cfg1.N) (l : Fin 512) :
    (outsAt1 V c t).1 (ix3 0 0 l) = sumOne (V c main_call0_v6) (V c main_call0_v1) (imageOf t) (placeOf t l) := by
  unfold outsAt1 sumOne
  dsimp only
  rw [out4_apply, row_block0]
  refine Finset.sum_congr rfl fun j _ => ?_
  rw [col_block2, lane_place t]

/-- The second output block at a lane. -/
theorem outs5 (c : Dev nD) (t : Fin cfg1.N) (l : Fin 512) :
    (outsAt1 V c t).2.1 (ix3 0 0 l) = sumOne (V c main_call0_v9) (V c main_call0_v3) (imageOf t) (placeOf t l) := by
  unfold outsAt1 sumOne
  dsimp only
  rw [out5_apply, row_block1]
  refine Finset.sum_congr rfl fun j _ => ?_
  rw [col_block3, lane_place t]

/-- The third output block at a lane. -/
theorem outs6 (c : Dev nD) (t : Fin cfg1.N) (l : Fin 512) :
    (outsAt1 V c t).2.2 (ix3 0 0 l)
      = sumTwo (V c main_call0_v6) (V c main_call0_v9) (V c main_call0_v1) (V c main_call0_v3) (imageOf t) (placeOf t l) := by
  unfold outsAt1 sumTwo
  dsimp only
  rw [out6_apply, row_block0, row_block1]
  refine Finset.sum_congr rfl fun j _ => ?_
  rw [col_block2, col_block3, lane_place t]

/-- Where an entry of output block one stands in its array. -/
theorem place4 (t : Fin cfg1.N) (l : Fin 512) : ((cfg1.win 4).blk t).view.emb (ix3 0 0 l) = ix3 (imageOf t) 0 (placeOf t l) := by
  obtain ⟨h0, h1, h2⟩ : win1_4.index t 0 = t.val / 20 ∧ win1_4.index t 1 = 0 ∧ win1_4.index t 2 = t.val % 20 := index_row t
  blk_ext [h0, h1, h2]

/-- Array one of sums. -/
theorem arr4 (c : Dev nD) : (dat1 V c).arrAt 4 cfg1.N
    = fun i : S2x1x10240.Idx => sumOne (V c main_call0_v6) (V c main_call0_v1) (i 0) (i 2) := by
  refine (dat1 V c).arrAt_eq_of_covers 4 _ (by decide +kernel) fun t hf y => ?_
  idx_vars y
  obtain rfl : y0 = 0 := Subsingleton.elim _ _
  obtain rfl : y1 = 0 := Subsingleton.elim _ _
  rw [place4]
  blk_simp
  rw [after1_4]
  exact outs4 V c t y2

/-- Where an entry of output block two stands in its array. -/
theorem place5 (t : Fin cfg1.N) (l : Fin 512) : ((cfg1.win 5).blk t).view.emb (ix3 0 0 l) = ix3 (imageOf t) 0 (placeOf t l) := by
  obtain ⟨h0, h1, h2⟩ : win1_5.index t 0 = t.val / 20 ∧ win1_5.index t 1 = 0 ∧ win1_5.index t 2 = t.val % 20 := index_row t
  blk_ext [h0, h1, h2]

/-- Array two of sums. -/
theorem arr5 (c : Dev nD) : (dat1 V c).arrAt 5 cfg1.N
    = fun i : S2x1x10240.Idx => sumOne (V c main_call0_v9) (V c main_call0_v3) (i 0) (i 2) := by
  refine (dat1 V c).arrAt_eq_of_covers 5 _ (by decide +kernel) fun t hf y => ?_
  idx_vars y
  obtain rfl : y0 = 0 := Subsingleton.elim _ _
  obtain rfl : y1 = 0 := Subsingleton.elim _ _
  rw [place5]
  blk_simp
  rw [after1_5]
  exact outs5 V c t y2

/-- Where an entry of output block three stands in its array. -/
theorem place6 (t : Fin cfg1.N) (l : Fin 512) : ((cfg1.win 6).blk t).view.emb (ix3 0 0 l) = ix3 (imageOf t) 0 (placeOf t l) := by
  obtain ⟨h0, h1, h2⟩ : win1_6.index t 0 = t.val / 20 ∧ win1_6.index t 1 = 0 ∧ win1_6.index t 2 = t.val % 20 := index_row t
  blk_ext [h0, h1, h2]

/-- Array three of sums. -/
theorem arr6 (c : Dev nD) : (dat1 V c).arrAt 6 cfg1.N
    = fun i : S2x1x10240.Idx => sumTwo (V c main_call0_v6) (V c main_call0_v9) (V c main_call0_v1) (V c main_call0_v3) (i 0) (i 2) := by
  refine (dat1 V c).arrAt_eq_of_covers 6 _ (by decide +kernel) fun t hf y => ?_
  idx_vars y
  obtain rfl : y0 = 0 := Subsingleton.elim _ _
  obtain rfl : y1 = 0 := Subsingleton.elim _ _
  rw [place6]
  blk_simp
  rw [after1_6]
  exact outs6 V c t y2

end Cert.KernelIdeal.Hand

end
-- ==== Proof.Spec.lean ====
/- The mutual information of one pair in plain terms, and the kernel's masked grid of 80 rows of 128 lanes against the
   ten thousand samples. -/
module

public import proofs.«01_k».proof.Proof.Consts
public import proofs.«01_k».proof.Proof.Gauss

@[expose] public section

set_option maxRecDepth 16384

noncomputable section

namespace Cert.Spec

open Idealize.ShloMosaic
open Cert.Gauss

/-- The smallness that keeps quotients and logarithms defined. -/
abbrev eps : EReal := Cert.Consts.eps

/-- A row sum over the sample count. -/
def mean (x : Fin 10000 → EReal) (i : Fin 10000) : EReal := x i * ((1 / 10000 : ℝ) : EReal)

/-- A density: each mean over the total. -/
def prob (x : Fin 10000 → EReal) (i : Fin 10000) : EReal := Ideal.div (x i) ((∑ k, x k) + eps)

/-- One sample's part of the mutual information, from the densities. -/
def part (a b ab : Fin 10000 → EReal) (i : Fin 10000) : EReal :=
  prob ab i * Ideal.log (Ideal.div (prob ab i + eps) (prob a i * prob b i + eps))

/-- The mutual information of a pair, from its three arrays of means. -/
def info (a b ab : Fin 10000 → EReal) : EReal := ∑ i, part a b ab i

/-- An array of samples laid out on the grid, zero past the last sample. -/
def place (g : Fin 10000 → EReal) (r : Fin 80) (l : Fin 128) : EReal :=
  if h : r.val * 128 + l.val < 10000 then g ⟨r.val * 128 + l.val, h⟩ else 0

/-- A sum over the grid is the sum over the samples. -/
theorem sum_place (g : Fin 10000 → EReal) : ∑ r : Fin 80, ∑ l : Fin 128, place g r l = ∑ i, g i := by
  have h1 : ∑ r : Fin 80, ∑ l : Fin 128, place g r l
      = ∑ j : Fin (80 * 128), if h : j.val < 10000 then g ⟨j.val, h⟩ else 0 := by
    rw [← finProdFinEquiv.sum_comp, Fintype.sum_prod_type]
    refine Finset.sum_congr rfl fun r _ => Finset.sum_congr rfl fun l _ => ?_
    have e : (finProdFinEquiv (r, l)).val = r.val * 128 + l.val := by
      show l.val + 128 * r.val = _; omega
    unfold place
    simp only [e]
  rw [h1]
  refine (Fin.sum_univ_add (a := 10000) (b := 240) fun j : Fin (10000 + 240) => if h : j.val < 10000 then g ⟨j.val, h⟩ else 0).trans ?_
  have h2 : ∑ i : Fin 240, (if h : (Fin.natAdd 10000 i).val < 10000 then g ⟨(Fin.natAdd 10000 i).val, h⟩ else 0) = 0 :=
    Finset.sum_eq_zero fun i _ => dif_neg (by show ¬ 10000 + i.val < 10000; omega)
  rw [h2, add_zero]
  exact Finset.sum_congr rfl fun i _ => dif_pos i.isLt

/-- A total of values that are not negative, with the smallness added, is not zero. -/
theorem total_ne (g : Fin 10000 → EReal) (h : ∀ i, 0 ≤ g i) : (∑ k, g k) + eps ≠ 0 := by
  obtain ⟨r, hr, he⟩ := Cert.Consts.eps_pos
  have h1 : 0 ≤ ∑ k, g k := Finset.sum_nonneg fun k _ => h k
  have h2 : (0 : EReal) < eps := by show (0 : EReal) < Cert.Consts.eps; rw [he]; exact EReal.coe_pos.mpr hr
  exact (h2.trans_le (le_add_of_nonneg_left h1)).ne'

/-- One grid cell's part of the mutual information is the sample's, and zero past the last sample. -/
theorem part_place (a b ab : Fin 10000 → EReal) (h : ∀ i, 0 ≤ ab i) (r : Fin 80) (l : Fin 128) :
    Ideal.div (place ab r l) ((∑ k, ab k) + eps)
      * Ideal.log (Ideal.div (Ideal.div (place ab r l) ((∑ k, ab k) + eps) + eps)
          (Ideal.div (place a r l) ((∑ k, a k) + eps) * Ideal.div (place b r l) ((∑ k, b k) + eps) + eps))
      = place (part a b ab) r l := by
  unfold place
  by_cases hl : r.val * 128 + l.val < 10000
  · simp only [dif_pos hl]
    rfl
  · have hz : Ideal.div 0 ((∑ k, ab k) + eps) = 0 := zero_div _ (total_ne ab h)
    simp only [dif_neg hl]
    generalize (∑ k, ab k) + eps = S at hz ⊢
    exact (congrArg (· * _) hz).trans (zero_mul _)

/-- The kernel's sum over the grid is the mutual information. -/
theorem sum_part (a b ab : Fin 10000 → EReal) (h : ∀ i, 0 ≤ ab i) :
    ∑ r : Fin 80, ∑ l : Fin 128, Ideal.div (place ab r l) ((∑ k, ab k) + eps)
      * Ideal.log (Ideal.div (Ideal.div (place ab r l) ((∑ k, ab k) + eps) + eps)
          (Ideal.div (place a r l) ((∑ k, a k) + eps) * Ideal.div (place b r l) ((∑ k, b k) + eps) + eps))
      = info a b ab := by
  refine Eq.trans ?_ (sum_place (part a b ab))
  exact Finset.sum_congr rfl fun r _ => Finset.sum_congr rfl fun l _ => part_place a b ab h r l

end Cert.Spec

end
-- ==== Proof.Mi.lean ====
/- What the reduction kernel computes from the three arrays of row sums: minus the two pairs' mutual information. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Spec

/-- The row sums of image `p` that a reduction block holds, sample by sample. -/
abbrev cells (x : Vec Ideal S1x80x128 .f32) (i : Fin 10000) : EReal :=
  x (ix3 0 ⟨i.val / 128, by omega⟩ ⟨i.val % 128, Nat.mod_lt _ (by decide)⟩)

/-- The mask is set at the cells that hold samples. -/
theorem mask_apply : ∀ (r : Fin 80) (l : Fin 128),
    IntOp.cmpi .slt (IntOp.addi (IntOp.muli (BitVec.ofNat 32 r.val) 128#32) (BitVec.ofNat 32 l.val)) 10000#32
      = if r.val * 128 + l.val < 10000 then 1 else 0 := by
  decide +kernel

/-- A masked mean at a cell is the sample's mean, and zero past the last sample. -/
theorem masked (x : Vec Ideal S1x80x128 .f32) (r : Fin 80) (l : Fin 128) :
    Scalar.select (k2_pay2 (ix2 r l)) (x (ix3 0 r l) * (Named.named (F := Ideal) κ "inv_n" (φ := .f32) 0x38D1B717#32 : EReal)) 0
      = place (mean (cells x)) r l := by
  pointwise [k2_pay2]
  rw [mask_apply, Consts.inv_n]
  unfold place Scalar.select
  by_cases h : r.val * 128 + l.val < 10000
  · have e1 : (r.val * 128 + l.val) / 128 = r.val := by omega
    have e2 : (r.val * 128 + l.val) % 128 = l.val := by omega
    rw [if_pos h, dif_pos h, if_pos rfl]
    unfold mean cells
    simp only [e1, e2]
  · rw [if_neg h, dif_neg h, if_neg (by decide)]

/-- The masked means of the first pair. -/
theorem pay3_cell (x : Vec Ideal S1x80x128 .f32) (r : Fin 80) (l : Fin 128) :
    k2_pay3 x (ix2 r l) = place (mean (cells x)) r l := by
  rw [← masked]
  pointwise [k2_pay3]

/-- The masked means of the second pair. -/
theorem pay7_cell (x : Vec Ideal S1x80x128 .f32) (r : Fin 80) (l : Fin 128) :
    k2_pay7 k2_pay2 x (ix2 r l) = place (mean (cells x)) r l := by
  rw [← masked]
  pointwise [k2_pay7]

/-- A density of the first pair, at a cell. -/
theorem pay4_cell (x : Vec Ideal S1x80x128 .f32) (r : Fin 80) (l : Fin 128) :
    k2_pay4 x (ix2 r l) = Ideal.div (place (mean (cells x)) r l) ((∑ k, mean (cells x) k) + eps) := by
  rw [← sum_place]
  simp only [← masked]
  pointwise [k2_pay4]
  rfl

/-- The first pair's sum. -/
theorem pay6_eq (a b ab : Vec Ideal S1x80x128 .f32) (h : ∀ i, 0 ≤ mean (cells ab) i) :
    k2_pay6 (k2_pay3 ab) (k2_pay4 a) (k2_pay5 b) = info (mean (cells a)) (mean (cells b)) (mean (cells ab)) := by
  rw [← sum_part _ _ _ h, show k2_pay5 b = k2_pay4 b from rfl]
  simp only [← pay4_cell a, ← pay4_cell b]
  rw [← sum_place (mean (cells ab))]
  simp only [← pay3_cell ab]
  generalize k2_pay4 a = p
  generalize k2_pay4 b = q
  generalize k2_pay3 ab = s
  pointwise [k2_pay6]
  rfl

/-- The second pair's sum, added to the first pair's and negated. -/
theorem pay1_eq (w : EReal) (a b ab : Vec Ideal S1x80x128 .f32) (h : ∀ i, 0 ≤ mean (cells ab) i) (u : Fin 8) (v : Fin 128) :
    k2_pay1 (F := Ideal) w (k2_pay7 k2_pay2 a) (k2_pay8 k2_pay2 b) (k2_pay9 k2_pay2 ab) (k2_pay10 k2_pay2 a) (ix2 u v)
      = 0 - (w + info (mean (cells a)) (mean (cells b)) (mean (cells ab))) := by
  rw [← sum_part _ _ _ h, show k2_pay8 (F := Ideal) k2_pay2 b = k2_pay7 k2_pay2 b from rfl,
    show k2_pay9 (F := Ideal) k2_pay2 ab = k2_pay7 k2_pay2 ab from rfl,
    ← sum_place (mean (cells a)), ← sum_place (mean (cells b)), ← sum_place (mean (cells ab))]
  simp only [← pay7_cell a, ← pay7_cell b, ← pay7_cell ab]
  have e : k2_pay10 k2_pay2 a (ix1 0) = ∑ r : Fin 80, ∑ l : Fin 128, k2_pay7 k2_pay2 a (ix2 r l) := by
    unfold k2_pay10
    generalize k2_pay7 k2_pay2 a = p
    pointwise []
  rw [← e]
  generalize k2_pay10 k2_pay2 a = d
  generalize k2_pay7 k2_pay2 a = p
  generalize k2_pay7 k2_pay2 b = q
  generalize k2_pay7 k2_pay2 ab = s
  pointwise [k2_pay1]
  rfl

end Cert.KernelIdeal.Hand

end
-- ==== Proof.Arrays.lean ====
/- The arrays that the padding kernel and the reduction kernel leave. -/
module

public import proofs.«01_k».proof.Proof.Mi

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Spec

variable (V : (c : Dev nD) → (b : Ref sig .tc) → Buf (Elt Ideal) ((c : Thread nD τ).loc b))

/-- The padding everywhere. -/
def padding : S2x240.Idx → EReal := fun _ => ⊤

/-- The padding kernel's payload. -/
theorem pad_payload (y : S2x240.Idx) : k0_pay1 (F := Ideal) y = ⊤ := by
  unfold k0_pay1
  exact Consts.pad

/-- The padding kernel leaves positive infinity everywhere. -/
theorem arr_pad (c : Dev nD) : (dat0 V c).arrAt 1 cfg0.N = padding := by
  refine (dat0 V c).arrAt_eq_of_covers 1 _ (by decide +kernel) fun t hf y => ?_
  blk_simp
  rw [after0_1]
  frame_out
  exact pad_payload y

/-- The row sums of pair `p` in a reduction operand, sample by sample. -/
def sums (x : S2x80x128.Idx → EReal) (p : Fin 2) (i : Fin 10000) : EReal :=
  x (ix3 p ⟨i.val / 128, by omega⟩ ⟨i.val % 128, Nat.mod_lt _ (by decide)⟩)

/-- The mutual information of pair `p` from the reduction's three operands. -/
def pairInfo (a b ab : S2x80x128.Idx → EReal) (p : Fin 2) : EReal :=
  info (mean (sums a p)) (mean (sums b p)) (mean (sums ab p))

/-- An operand's slice of the first pair, sample by sample. -/
theorem cells_fst (x : Vec Ideal S2x80x128 .f32) : cells (View.ld x r2_0) = sums x 0 := by
  funext i
  unfold cells sums
  pointwise []

/-- An operand's slice of the second pair, sample by sample. -/
theorem cells_snd (x : Vec Ideal S2x80x128 .f32) : cells (View.ld x r2_1) = sums x 1 := by
  funext i
  unfold cells sums
  pointwise []

/-- The reduction kernel's block: minus the sum of the two pairs' mutual information. -/
theorem out3_apply (a b ab : Vec Ideal S2x80x128 .f32) (h : ∀ p i, 0 ≤ mean (sums ab p) i) (u : Fin 8) (v : Fin 128) :
    k2_pay1 (F := Ideal) (k2_pay6 (k2_pay3 (View.ld ab r2_0)) (k2_pay4 (View.ld a r2_0)) (k2_pay5 (View.ld b r2_0)))
        (k2_pay7 (k2_pay11 a b ab) (View.ld a r2_1)) (k2_pay8 (k2_pay11 a b ab) (View.ld b r2_1))
        (k2_pay9 (k2_pay11 a b ab) (View.ld ab r2_1)) (k2_pay10 (k2_pay11 a b ab) (View.ld a r2_1)) (ix2 u v)
      = 0 - (pairInfo a b ab 0 + pairInfo a b ab 1) := by
  refine (pay1_eq _ _ _ _ (fun i => by rw [cells_snd]; exact h 1 i) u v).trans ?_
  rw [pay6_eq _ _ _ (fun i => by rw [cells_fst]; exact h 0 i)]
  simp only [cells_fst, cells_snd]
  rfl

/-- The reduction's first operand is read whole. -/
theorem whole2_0 (c : Dev nD) (t : Fin cfg2.N) : iblk2 V c 0 t = V c main_call0_v11 := by
  have e : ∀ a, win2_0.index t a = 0 := fun _ => rfl
  funext y
  blk_ext [iblk2, e]

/-- So is its second. -/
theorem whole2_1 (c : Dev nD) (t : Fin cfg2.N) : iblk2 V c 1 t = V c main_call0_v12 := by
  have e : ∀ a, win2_1.index t a = 0 := fun _ => rfl
  funext y
  blk_ext [iblk2, e]

/-- So is its third. -/
theorem whole2_2 (c : Dev nD) (t : Fin cfg2.N) : iblk2 V c 2 t = V c main_call0_v13 := by
  have e : ∀ a, win2_2.index t a = 0 := fun _ => rfl
  funext y
  blk_ext [iblk2, e]

/-- The same value everywhere. -/
def result (a b ab : S2x80x128.Idx → EReal) : S8x128.Idx → EReal := fun _ => 0 - (pairInfo a b ab 0 + pairInfo a b ab 1)

/-- The reduction kernel's array. -/
theorem arr_info (c : Dev nD) (h : ∀ p i, 0 ≤ mean (sums (V c main_call0_v13) p) i) :
    (dat2 V c).arrAt 3 cfg2.N = result (V c main_call0_v11) (V c main_call0_v12) (V c main_call0_v13) := by
  refine (dat2 V c).arrAt_eq_of_covers 3 _ (by decide +kernel) fun t hf y => ?_
  blk_simp
  rw [after2_3]
  frame_out
  rw [whole2_0, whole2_1, whole2_2]
  idx_vars y
  exact out3_apply _ _ _ h y0 y1

end Cert.KernelIdeal.Hand

end
-- ==== Proof.Host.lean ====
/- What the host operations around the three kernels leave in the arrays the kernels read. -/
module

public import proofs.«01_k».proof.Proof.RowSums
public import proofs.«01_k».proof.Proof.Arrays
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Spec Cert.Gauss

/-- The places a list of indices names: a negative index counts from the end. -/
def places (t : S10000.Idx → BitVec 32) : S10000x1.Idx → BitVec 32 :=
  broadcastInDim S10000x1 ![0] bcast_S10000_S10000x1_0
    (select (cmpi .slt t (broadcastInDim S10000 ![] bcast_S_S10000 (constantI S_ 32 0#32)))
      (addi t (broadcastInDim S10000 ![] bcast_S_S10000 (constantI S_ 32 131072#32))) t)

/-- The samples of a pair of images at the places. -/
def samples (x : S2x1x256x256.Idx → EReal) (t : S10000.Idx → BitVec 32) : S10000.Idx → EReal :=
  Host.gather gather_S131072_S10000x1_S10000_n_0_n_n_0_1_1 (shapeCast S131072 x shapeCasts_S2x1x256x256_S131072) (places t)

/-- Two rows of samples, one above the other, scaled by 5/2. -/
def scaled (x y : S10000.Idx → EReal) : S2x10000.Idx → EReal :=
  mulf (F := Ideal) (φ := .f32)
    (concatenate S2x10000 0 [⟨S1x10000, broadcastInDim S1x10000 ![1] bcast_S10000_S1x10000_1 x⟩,
      ⟨S1x10000, broadcastInDim S1x10000 ![1] bcast_S10000_S1x10000_1 y⟩] concatenates_S1x10000_S1x10000_S2x10000_d0)
    (broadcastInDim S2x10000 ![] bcast_S_S2x10000 (constant (F := Ideal) S_ .f32 0x40200000#32))

/-- Row 0 of the two. -/
theorem scaled_zero (x y : S10000.Idx → EReal) (i : Fin 10000) : scaled x y (ix2 0 i) = x (ix1 i) * ((5 / 2 : ℝ) : EReal) := by
  rw [← Cert.Consts.ofBits_five_halves]
  pointwise [scaled]

/-- Row 1 of the two. -/
theorem scaled_one (x y : S10000.Idx → EReal) (i : Fin 10000) : scaled x y (ix2 1 i) = y (ix1 i) * ((5 / 2 : ℝ) : EReal) := by
  rw [← Cert.Consts.ofBits_five_halves]
  pointwise [scaled]

/-- A scaled array with the padding joined to its rows. -/
def joined (x : S2x10000.Idx → EReal) : S2x10240.Idx → EReal :=
  concatenate S2x10240 1 [⟨S2x10000, x⟩, ⟨S2x240, padding⟩] concatenates_S2x10000_S2x240_S2x10240_d1

/-- The first ten thousand entries of a joined row are the row. -/
theorem joined_left (x : S2x10000.Idx → EReal) (p : Fin 2) (i : Fin 10000) : joined x (ix2 p (Fin.castAdd 240 i)) = x (ix2 p i) := by
  have h : (Fin.castAdd 240 i).val < 10000 := i.isLt
  pointwise [joined]
  exact dif_pos h

/-- The rest is padding. -/
theorem joined_right (x : S2x10000.Idx → EReal) (p : Fin 2) (i : Fin 240) : joined x (ix2 p (Fin.natAdd 10000 i)) = ⊤ := by
  have h : ¬ (Fin.natAdd 10000 i).val < 10000 := by simp
  pointwise [joined, padding]
  exact dif_neg h

/-- A joined array as a row per image. -/
def asRow (x : S2x10240.Idx → EReal) : S2x1x10240.Idx → EReal :=
  truncf (F := Ideal) (φ := .f32) .bf16 (shapeCast S2x1x10240 x shapeCasts_S2x10240_S2x1x10240) bitsLt_bf16_f32

/-- A joined array as a column per image, repeated along the lanes. -/
def asColumn (x : S2x10240.Idx → EReal) : S2x10240x128.Idx → EReal :=
  truncf (F := Ideal) (φ := .f32) .bf16 (broadcastInDim S2x10240x128 ![0, 1, 2] bcast_S2x10240x1_S2x10240x128_0_1_2
    (shapeCast S2x10240x1 x shapeCasts_S2x10240_S2x10240x1)) bitsLt_bf16_f32

/-- The row at an entry. -/
theorem asRow_apply (x : S2x10240.Idx → EReal) (p : Fin 2) (i : Fin 10240) : asRow x (ix3 p 0 i) = x (ix2 p i) := by
  pointwise [asRow]

/-- The column at an entry. -/
theorem asColumn_apply (x : S2x10240.Idx → EReal) (p : Fin 2) (j : Fin 10240) (l : Fin 128) : asColumn x (ix3 p j l) = x (ix2 p j) := by
  pointwise [asColumn]

variable (m : (ℓ : Loc nD τ sig) → Buf (Elt Ideal) ℓ) (ρ : Dev nD → PrngReg)

/-- The fixed images' samples of the two index lists, scaled. -/
def first (c : Dev nD) : S2x10000.Idx → EReal :=
  scaled (samples (m ((c.tc : Thread nD τ).loc main_arg0)) (m ((c.tc : Thread nD τ).loc main_arg3)))
    (samples (m ((c.tc : Thread nD τ).loc main_arg0)) (m ((c.tc : Thread nD τ).loc main_arg4)))

/-- The two moving images' samples, one of each index list, scaled. -/
def second (c : Dev nD) : S2x10000.Idx → EReal :=
  scaled (samples (m ((c.tc : Thread nD τ).loc main_arg1)) (m ((c.tc : Thread nD τ).loc main_arg3)))
    (samples (m ((c.tc : Thread nD τ).loc main_arg2)) (m ((c.tc : Thread nD τ).loc main_arg4)))

variable (X : Valuation τ sig (Elt Ideal))

/-- A row of samples before it is joined to its neighbour. -/
theorem fixed_first : StableHlo.upto hostOps0 X 23 (Proc.devRef .tc main_v17)
    = broadcastInDim S1x10000 ![1] bcast_S10000_S1x10000_1 (samples (X (Proc.devRef .tc main_arg0)) (X (Proc.devRef .tc main_arg3))) := by
  after_reads_simp
  rfl

/-- A row of samples before it is joined to its neighbour. -/
theorem fixed_second : StableHlo.upto hostOps0 X 23 (Proc.devRef .tc main_v18)
    = broadcastInDim S1x10000 ![1] bcast_S10000_S1x10000_1 (samples (X (Proc.devRef .tc main_arg0)) (X (Proc.devRef .tc main_arg4))) := by
  after_reads_simp
  rfl

/-- A row of samples before it is joined to its neighbour. -/
theorem moving_first : StableHlo.upto hostOps0 X 47 (Proc.devRef .tc main_v36)
    = broadcastInDim S1x10000 ![1] bcast_S10000_S1x10000_1 (samples (X (Proc.devRef .tc main_arg1)) (X (Proc.devRef .tc main_arg3))) := by
  after_reads_simp
  rfl

/-- A row of samples before it is joined to its neighbour. -/
theorem moving_second : StableHlo.upto hostOps0 X 47 (Proc.devRef .tc main_v37)
    = broadcastInDim S1x10000 ![1] bcast_S10000_S1x10000_1 (samples (X (Proc.devRef .tc main_arg2)) (X (Proc.devRef .tc main_arg4))) := by
  after_reads_simp
  rfl

/-- The host's first line leaves the fixed samples scaled. -/
theorem line_fixed : StableHlo.after hostOps0 X (Proc.devRef .tc main_v21)
    = scaled (samples (X (Proc.devRef .tc main_arg0)) (X (Proc.devRef .tc main_arg3)))
      (samples (X (Proc.devRef .tc main_arg0)) (X (Proc.devRef .tc main_arg4))) := by
  after_reads_simp
  rw [fixed_first, fixed_second]
  rfl

/-- And the moving samples scaled. -/
theorem line_moving : StableHlo.after hostOps0 X (Proc.devRef .tc main_v40)
    = scaled (samples (X (Proc.devRef .tc main_arg1)) (X (Proc.devRef .tc main_arg3)))
      (samples (X (Proc.devRef .tc main_arg2)) (X (Proc.devRef .tc main_arg4))) := by
  after_reads_simp
  rw [moving_first, moving_second]
  rfl

/-- The fixed samples at the first kernel's entry. -/
theorem W1_first (c : Dev nD) : W1 m ρ c (Proc.devRef .tc main_v21) = first m c :=
  line_fixed (W0 m ρ c)

/-- The moving samples at the first kernel's entry. -/
theorem W1_second (c : Dev nD) : W1 m ρ c (Proc.devRef .tc main_v40) = second m c :=
  line_moving (W0 m ρ c)

/-- The padding kernel's array. -/
theorem W2_pad (c : Dev nD) : W2 m ρ c (Proc.devRef .tc main_v42) = padding :=
  (W2_arr m ρ c 1).trans (arr_pad (V1 m ρ) c)

/-- The padding is joined to the fixed samples. -/
theorem join_fixed (x : S2x10000.Idx → EReal) (h : X (Proc.devRef .tc main_v21) = x) (hp : X (Proc.devRef .tc main_v42) = padding) :
    StableHlo.after hostOps1 X (Proc.devRef .tc main_v43) = joined x := by
  subst h
  unfold joined
  rw [← hp]
  after_reads_simp
  rfl

/-- The fixed samples, joined. -/
theorem W3_first (c : Dev nD) : W3 m ρ c (Proc.devRef .tc main_v43) = joined (first m c) :=
  join_fixed (W2 m ρ c) _ ((W2_of m ρ c main_v21 (by decide)).trans (W1_first m ρ c)) (W2_pad m ρ c)

/-- The padding is joined to the moving samples. -/
theorem join_moving (x : S2x10000.Idx → EReal) (h : X (Proc.devRef .tc main_v40) = x) (hp : X (Proc.devRef .tc main_v42) = padding) :
    StableHlo.after hostOps1 X (Proc.devRef .tc main_v44) = joined x := by
  subst h
  unfold joined
  rw [← hp]
  after_reads_simp
  rfl

/-- The moving samples, joined. -/
theorem W3_second (c : Dev nD) : W3 m ρ c (Proc.devRef .tc main_v44) = joined (second m c) :=
  join_moving (W2 m ρ c) _ ((W2_of m ρ c main_v40 (by decide)).trans (W1_second m ρ c)) (W2_pad m ρ c)

/-- The rows of the fixed samples that the kernel reads. -/
theorem line_row_first :
    StableHlo.after hostOps1_1 X (Proc.devRef .tc main_call0_v1) = asRow (X (Proc.devRef .tc main_v43)) := by
  after_reads_simp
  rfl

/-- The same at the kernel's entry. -/
theorem V4_row_first (c : Dev nD) : V4 m ρ c main_call0_v1 = asRow (joined (first m c)) :=
  (line_row_first (W3 m ρ c)).trans (congrArg asRow (W3_first m ρ c))

/-- The rows of the moving samples. -/
theorem line_row_second :
    StableHlo.after hostOps1_1 X (Proc.devRef .tc main_call0_v3) = asRow (X (Proc.devRef .tc main_v44)) := by
  after_reads_simp
  rfl

/-- The same at the kernel's entry. -/
theorem V4_row_second (c : Dev nD) : V4 m ρ c main_call0_v3 = asRow (joined (second m c)) :=
  (line_row_second (W3 m ρ c)).trans (congrArg asRow (W3_second m ρ c))

/-- The columns of the fixed samples. -/
theorem line_col_first :
    StableHlo.after hostOps1_1 X (Proc.devRef .tc main_call0_v6) = asColumn (X (Proc.devRef .tc main_v43)) := by
  after_reads_simp
  rfl

/-- The same at the kernel's entry. -/
theorem V4_col_first (c : Dev nD) : V4 m ρ c main_call0_v6 = asColumn (joined (first m c)) :=
  (line_col_first (W3 m ρ c)).trans (congrArg asColumn (W3_first m ρ c))

/-- The columns of the moving samples. -/
theorem line_col_second :
    StableHlo.after hostOps1_1 X (Proc.devRef .tc main_call0_v9) = asColumn (X (Proc.devRef .tc main_v44)) := by
  after_reads_simp
  rfl

/-- The same at the kernel's entry. -/
theorem V4_col_second (c : Dev nD) : V4 m ρ c main_call0_v9 = asColumn (joined (second m c)) :=
  (line_col_second (W3 m ρ c)).trans (congrArg asColumn (W3_second m ρ c))

end Cert.KernelIdeal.Hand

end
-- ==== Proof.Problem.lean ====
/- The problem's result in plain mathematics: the densities of the samples, their information, and the loss. -/
module

public import proofs.«01_k».proof.Proof.Gauss
public import proofs.«01_k».proof.Proof.Spec

@[expose] public section

noncomputable section

namespace Cert.Spec

open Cert.Gauss

/-- The sum of the Gaussian weights of all samples against one. -/
def density (x : Fin 10000 → EReal) (i : Fin 10000) : EReal := ∑ j, gauss (x j) (x i)

/-- The same of two sample lists together: the weights multiply. -/
def joint (x y : Fin 10000 → EReal) (i : Fin 10000) : EReal := ∑ j, gauss (x j) (x i) * gauss (y j) (y i)

/-- The mutual information of two sample lists. -/
def shared (x y : Fin 10000 → EReal) : EReal := info (mean (density x)) (mean (density y)) (mean (joint x y))

/-- The loss of two pairs of sample lists: minus the sum of their informations. -/
def loss (x y x' y' : Fin 10000 → EReal) : EReal := -(shared x y + shared x' y')

/-- A joint density is not negative. -/
theorem joint_nonneg (x y : Fin 10000 → EReal) (i : Fin 10000) : 0 ≤ joint x y i :=
  Finset.sum_nonneg fun j _ => EReal.mul_nonneg (gauss_nonneg _ _) (gauss_nonneg _ _)

/-- Nor is its mean. -/
theorem mean_joint_nonneg (x y : Fin 10000 → EReal) (i : Fin 10000) : 0 ≤ mean (joint x y) i :=
  EReal.mul_nonneg (joint_nonneg x y i) (EReal.coe_nonneg.mpr (by norm_num))

end Cert.Spec

end
-- ==== Proof.Ending.lean ====
/- What the kernel's result buffer holds: the loss of the samples. -/
module

public import proofs.«01_k».proof.Proof.Host
public import proofs.«01_k».proof.Proof.Problem

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Idealize.SL.Sem
open Cert.Spec Cert.Gauss

/-- Which of two sample lists a row holds. -/
def pick (x y : S10000.Idx → EReal) (p : Fin 2) (i : Fin 10000) : EReal := if p = 0 then x (ix1 i) else y (ix1 i)

/-- The scaled array at any row. -/
theorem scaled_apply (x y : S10000.Idx → EReal) (p : Fin 2) (i : Fin 10000) :
    scaled x y (ix2 p i) = pick x y p i * ((5 / 2 : ℝ) : EReal) := by
  match p with
  | 0 => exact scaled_zero x y i
  | 1 => exact scaled_one x y i

/-- A sum over the joined places is a sum over the samples when the padding's terms vanish. -/
theorem sum_joined (f : Fin 10240 → EReal) (h : ∀ i : Fin 240, f (Fin.natAdd 10000 i) = 0) :
    ∑ j, f j = ∑ j : Fin 10000, f (Fin.castAdd 240 j) := by
  refine (Fin.sum_univ_add (a := 10000) (b := 240) f).trans ?_
  rw [Finset.sum_eq_zero (f := fun i : Fin 240 => f (Fin.natAdd 10000 i)) fun i _ => h i, add_zero]

/-- The weight of a sample against a sample. -/
theorem weight_left (x y : S10000.Idx → EReal) (p : Fin 2) (i j : Fin 10000) :
    pow2 (asColumn (joined (scaled x y)) (ix3 p (Fin.castAdd 240 j) (laneOf (Fin.castAdd 240 i))))
        (asRow (joined (scaled x y)) (ix3 p 0 (Fin.castAdd 240 i)))
      = gauss (pick x y p j) (pick x y p i) := by
  rw [asColumn_apply, asRow_apply, joined_left, joined_left, scaled_apply, scaled_apply, pow2_eq_gauss]

/-- The weight of the padding against a sample. -/
theorem weight_right (x y : S10000.Idx → EReal) (p : Fin 2) (i : Fin 10000) (j : Fin 240) :
    pow2 (asColumn (joined (scaled x y)) (ix3 p (Fin.natAdd 10000 j) (laneOf (Fin.castAdd 240 i))))
        (asRow (joined (scaled x y)) (ix3 p 0 (Fin.castAdd 240 i))) = 0 := by
  rw [asColumn_apply, joined_right, pow2_top]

/-- The kernel's first two sums at a sample are the densities. -/
theorem sumOne_density (x y : S10000.Idx → EReal) (p : Fin 2) (i : Fin 10000) :
    sumOne (asColumn (joined (scaled x y))) (asRow (joined (scaled x y))) p (Fin.castAdd 240 i) = density (pick x y p) i := by
  unfold sumOne density
  rw [sum_joined _ fun j => weight_right x y p i j]
  exact Finset.sum_congr rfl fun j _ => weight_left x y p i j

/-- The kernel's third sum at a sample is the joint density. -/
theorem sumTwo_joint (x y x' y' : S10000.Idx → EReal) (p : Fin 2) (i : Fin 10000) :
    sumTwo (asColumn (joined (scaled x y))) (asColumn (joined (scaled x' y')))
      (asRow (joined (scaled x y))) (asRow (joined (scaled x' y'))) p (Fin.castAdd 240 i) = joint (pick x y p) (pick x' y' p) i := by
  unfold sumTwo joint
  rw [sum_joined _ fun j => by rw [weight_right, zero_mul]]
  exact Finset.sum_congr rfl fun j _ => congrArg₂ (· * ·) (weight_left x y p i j) (weight_left x' y' p i j)

/-- A row of sums laid out as eighty rows of lanes. -/
def spread (x : S2x1x10240.Idx → EReal) : S2x80x128.Idx → EReal := shapeCast S2x80x128 x shapeCasts_S2x1x10240_S2x80x128

/-- The laid out sums at a sample. -/
theorem sums_spread (x : S2x1x10240.Idx → EReal) (p : Fin 2) (i : Fin 10000) :
    sums (spread x) p i = x (ix3 p 0 (Fin.castAdd 240 i)) := by
  have e : (⟨i.val / 128 * 128 + i.val % 128, by have := i.isLt; omega⟩ : Fin 10240) = Fin.castAdd 240 i :=
    Fin.ext (Nat.div_add_mod' i.val 128)
  unfold sums
  pointwise [spread]
  exact congrArg (fun n : Fin 10240 => x (ix3 p 0 n)) e

variable (m : (ℓ : Loc nD τ sig) → Buf (Elt Ideal) ℓ) (ρ : Dev nD → PrngReg)

variable (X : Valuation τ sig (Elt Ideal))

/-- The host lays out the first array of sums. -/
theorem line_spread1 (x : S2x1x10240.Idx → EReal) (h : X (Proc.devRef .tc main_call0_v10_0) = x) :
    (StableHlo.after hostOps2 X (Proc.devRef .tc main_call0_v11) : S2x80x128.Idx → EReal) = spread x := by
  subst h
  after_reads_simp
  rfl

/-- The second. -/
theorem line_spread2 (x : S2x1x10240.Idx → EReal) (h : X (Proc.devRef .tc main_call0_v10_1) = x) :
    (StableHlo.after hostOps2 X (Proc.devRef .tc main_call0_v12) : S2x80x128.Idx → EReal) = spread x := by
  subst h
  after_reads_simp
  rfl

/-- The third. -/
theorem line_spread3 (x : S2x1x10240.Idx → EReal) (h : X (Proc.devRef .tc main_call0_v10_2) = x) :
    (StableHlo.after hostOps2 X (Proc.devRef .tc main_call0_v13) : S2x80x128.Idx → EReal) = spread x := by
  subst h
  after_reads_simp
  rfl

/-- The host takes one entry of the last kernel's block. -/
theorem line_result (x : S8x128.Idx → EReal) (h : X (Proc.devRef .tc main_call0_v14) = x) :
    (StableHlo.after hostOps3 X (Proc.devRef .tc main_v45) : S_.Idx → EReal)
      = shapeCast S_ (extractStridedSlice S1x1 ![0, 0] x slices_S8x128_S1x1_0_0) shapeCasts_S1x1_S_ := by
  subst h
  after_reads_simp
  rfl

/-- The first kernel array of sums, laid out. -/
theorem V6_first (c : Dev nD) : (V6 m ρ c main_call0_v11 : S2x80x128.Idx → EReal)
    = spread fun i => sumOne (asColumn (joined (first m c))) (asRow (joined (first m c))) (i 0) (i 2) :=
  line_spread1 (W5 m ρ c) _ (((W5_arr m ρ c 4).trans (arr4 (V4 m ρ) c)).trans (by rw [V4_col_first, V4_row_first]))

/-- The second. -/
theorem V6_second (c : Dev nD) : (V6 m ρ c main_call0_v12 : S2x80x128.Idx → EReal)
    = spread fun i => sumOne (asColumn (joined (second m c))) (asRow (joined (second m c))) (i 0) (i 2) :=
  line_spread2 (W5 m ρ c) _ (((W5_arr m ρ c 5).trans (arr5 (V4 m ρ) c)).trans (by rw [V4_col_second, V4_row_second]))

/-- The third. -/
theorem V6_both (c : Dev nD) : (V6 m ρ c main_call0_v13 : S2x80x128.Idx → EReal)
    = spread fun i => sumTwo (asColumn (joined (first m c))) (asColumn (joined (second m c)))
        (asRow (joined (first m c))) (asRow (joined (second m c))) (i 0) (i 2) :=
  line_spread3 (W5 m ρ c) _ (((W5_arr m ρ c 6).trans (arr6 (V4 m ρ) c)).trans
    (by rw [V4_col_first, V4_row_first, V4_col_second, V4_row_second]))

/-- The samples of one image pair at one index list. -/
def firstOf (c : Dev nD) : Fin 2 → Fin 10000 → EReal :=
  pick (samples (m ((c.tc : Thread nD τ).loc main_arg0)) (m ((c.tc : Thread nD τ).loc main_arg3)))
    (samples (m ((c.tc : Thread nD τ).loc main_arg0)) (m ((c.tc : Thread nD τ).loc main_arg4)))

/-- The moving images' samples. -/
def secondOf (c : Dev nD) : Fin 2 → Fin 10000 → EReal :=
  pick (samples (m ((c.tc : Thread nD τ).loc main_arg1)) (m ((c.tc : Thread nD τ).loc main_arg3)))
    (samples (m ((c.tc : Thread nD τ).loc main_arg2)) (m ((c.tc : Thread nD τ).loc main_arg4)))

/-- The reduction's first operand holds the densities of the fixed samples. -/
theorem sums_first (c : Dev nD) (p : Fin 2) : sums (V6 m ρ c main_call0_v11) p = density (firstOf m c p) := by
  funext i
  rw [V6_first]
  exact (sums_spread _ p i).trans (sumOne_density _ _ p i)

/-- Its second those of the moving samples. -/
theorem sums_second (c : Dev nD) (p : Fin 2) : sums (V6 m ρ c main_call0_v12) p = density (secondOf m c p) := by
  funext i
  rw [V6_second]
  exact (sums_spread _ p i).trans (sumOne_density _ _ p i)

/-- Its third the joint densities. -/
theorem sums_both (c : Dev nD) (p : Fin 2) : sums (V6 m ρ c main_call0_v13) p = joint (firstOf m c p) (secondOf m c p) := by
  funext i
  rw [V6_both]
  exact (sums_spread _ p i).trans (sumTwo_joint _ _ _ _ p i)

/-- The last kernel's array holds the loss everywhere. -/
theorem W7_loss (c : Dev nD) : (W7 m ρ c (Proc.devRef .tc main_call0_v14) : S8x128.Idx → EReal)
    = fun _ => loss (firstOf m c 0) (secondOf m c 0) (firstOf m c 1) (secondOf m c 1) := by
  refine ((W7_arr m ρ c 3).trans (arr_info (V6 m ρ) c fun p i => ?_)).trans ?_
  · rw [sums_both]
    exact mean_joint_nonneg _ _ i
  · funext _
    unfold result pairInfo loss shared
    rw [sums_first, sums_second, sums_both, sums_first, sums_second, sums_both, zero_sub]

/-- The result buffer ends holding the loss of the samples. -/
theorem W8_loss (c : Dev nD) : (W8 m ρ c main_v45 : S_.Idx → EReal)
    = fun _ => loss (firstOf m c 0) (secondOf m c 0) (firstOf m c 1) (secondOf m c 1) :=
  (line_result (W7 m ρ c) _ (W7_loss m ρ c)).trans rfl

end Cert.KernelIdeal.Hand

end
-- ==== Proof.Reference.lean ====
/- What the reference computes: the loss of the samples. -/
module

public import proofs.«01_k».proof.Proof.Gen.ReferenceIdeal.Read
public import proofs.«01_k».proof.Proof.Problem
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read Idealize.SL.Sem
open Cert.Spec Cert.Gauss

variable (x0 x1 x2 : S2x1x256x256.Idx → EReal) (x3 x4 : S10000.Idx → BitVec 32)

/-- The fixed images' samples. -/
def fixed (i : Fin 10000) : EReal := val_main_v9 (F := Ideal) x0 x3 (ix1 i)

/-- The moving images' samples. -/
def moving (i : Fin 10000) : EReal := val_main_v16 (F := Ideal) x1 x3 (ix1 i)

/-- The width of the Gaussian. -/
theorem width : val_main_v17 (F := Ideal) = fun _ => ((2 / 5 : ℝ) : EReal) := by
  funext i
  rw [val_main_v17_apply, val_main_cst_apply, val_main_cst_3_apply, Ideal.hostDivf_def]
  show Ideal.div (Ideal.ofBits .f32 0x40000000#32) (Ideal.ofBits .f32 0x40A00000#32) = _
  rw [Cert.Consts.ofBits_two, Cert.Consts.ofBits_five, Ideal.div_coe (by norm_num), ← EReal.coe_mul]
  norm_num

/-- The Gaussian matrix of the fixed samples. -/
theorem fixed_gauss (i j : Fin 10000) : val_main_v28 (F := Ideal) x0 x3 (ix2 i j) = gauss (fixed x0 x3 j) (fixed x0 x3 i) := by
  unfold gauss fixed
  rw [← Cert.Consts.ofBits_neg_half]
  pointwise [val_main_v28, val_main_v27, val_main_v26, val_main_v25, val_main_v24, val_main_v23, val_main_v22, val_main_v21, val_main_v20, val_main_v19, val_main_v18, val_main_cst_4, width]

/-- The Gaussian matrix of the moving samples. -/
theorem moving_gauss (i j : Fin 10000) : val_main_v46 (F := Ideal) x1 x3 (ix2 i j) = gauss (moving x1 x3 j) (moving x1 x3 i) := by
  unfold gauss moving
  rw [← Cert.Consts.ofBits_neg_half]
  pointwise [val_main_v46, val_main_v45, val_main_v44, val_main_v43, val_main_v42, val_main_v41, val_main_v40, val_main_v39, val_main_v38, val_main_v37, val_main_v36, val_main_cst_9, width]

/-- The reference computes the fixed matrix a second time. -/
theorem again_fixed : val_main_v64 (F := Ideal) x0 x3 = val_main_v28 (F := Ideal) x0 x3 := rfl

/-- And the moving one. -/
theorem again_moving : val_main_v75 (F := Ideal) x1 x3 = val_main_v46 (F := Ideal) x1 x3 := rfl

/-- The means of the fixed weights. -/
theorem fixed_mean (i : Fin 10000) : val_main_v31 (F := Ideal) x0 x3 (ix1 i) = mean (density (fixed x0 x3)) i := by
  unfold mean density
  rw [← div_count, ← Cert.Consts.ofBits_tenthousand]
  pointwise [val_main_v31, val_main_v30, val_main_cst_6, val_main_v29, val_main_cst_5]
  simp only [fixed_gauss]

/-- The means of the moving weights. -/
theorem moving_mean (i : Fin 10000) : val_main_v49 (F := Ideal) x1 x3 (ix1 i) = mean (density (moving x1 x3)) i := by
  unfold mean density
  rw [← div_count, ← Cert.Consts.ofBits_tenthousand]
  pointwise [val_main_v49, val_main_v48, val_main_cst_11, val_main_v47, val_main_cst_10]
  simp only [moving_gauss]

/-- The means of the products of the weights. -/
theorem joint_mean (i : Fin 10000) : val_main_v79 (F := Ideal) x0 x1 x3 (ix1 i) = mean (joint (fixed x0 x3) (moving x1 x3)) i := by
  unfold mean joint
  rw [← div_count, ← Cert.Consts.ofBits_tenthousand]
  pointwise [val_main_v79, val_main_v78, val_main_cst_17, val_main_v77, val_main_cst_16, val_main_v76, again_fixed, again_moving]
  simp only [fixed_gauss, moving_gauss]

/-- The fixed samples' probabilities. -/
theorem fixed_prob (i : Fin 10000) : val_main_v35 (F := Ideal) x0 x3 (ix1 i) = prob (mean (density (fixed x0 x3))) i := by
  unfold prob
  pointwise [val_main_v35, val_main_v34, val_main_v33, val_main_cst_8, val_main_v32, val_main_cst_7]
  simp only [fixed_mean]
  rfl

/-- The moving samples' probabilities. -/
theorem moving_prob (i : Fin 10000) : val_main_v53 (F := Ideal) x1 x3 (ix1 i) = prob (mean (density (moving x1 x3))) i := by
  unfold prob
  pointwise [val_main_v53, val_main_v52, val_main_v51, val_main_cst_13, val_main_v50, val_main_cst_12]
  simp only [moving_mean]
  rfl

/-- The joint probabilities. -/
theorem joint_prob (i : Fin 10000) :
    val_main_v83 (F := Ideal) x0 x1 x3 (ix1 i) = prob (mean (joint (fixed x0 x3) (moving x1 x3))) i := by
  unfold prob
  pointwise [val_main_v83, val_main_v82, val_main_v81, val_main_cst_19, val_main_v80, val_main_cst_18]
  simp only [joint_mean]
  rfl

/-- One sample's part of the information. -/
theorem part_apply (i : Fin 10000) : val_main_v91 (F := Ideal) x0 x1 x3 (ix1 i)
    = part (mean (density (fixed x0 x3))) (mean (density (moving x1 x3))) (mean (joint (fixed x0 x3) (moving x1 x3))) i := by
  unfold part
  rw [← fixed_prob, ← moving_prob, ← joint_prob]
  pointwise [val_main_v91, val_main_v90, val_main_v89, val_main_v88, val_main_v87, val_main_cst_21, val_main_v86, val_main_v85, val_main_v84, val_main_cst_20]
  rfl

/-- The information of the first pair. -/
theorem info_apply (k : S_.Idx) : val_main_v92 (F := Ideal) x0 x1 x3 k = shared (fixed x0 x3) (moving x1 x3) := by
  unfold shared info
  pointwise [val_main_v92, val_main_cst_22]
  simp only [part_apply]

/-- The second pair goes through the same operations. -/
theorem again_info : val_main_v182 (F := Ideal) x0 x2 x4 = val_main_v92 (F := Ideal) x0 x2 x4 := rfl

/-- The reference's result is the loss of the samples. -/
theorem result_loss (k : S_.Idx) : val_main_v184 (F := Ideal) x0 x1 x2 x3 x4 k
    = loss (fixed x0 x3) (moving x1 x3) (fixed x0 x4) (moving x2 x4) := by
  rw [val_main_v184_apply, val_main_v183_apply, again_info, info_apply, info_apply]
  rfl

end Cert.ReferenceIdeal.Hand

end
-- ==== Proof.Equation.lean ====
/- The kernel's result is the reference's. -/
module

public import proofs.«01_k».proof.Proof.Ending
public import proofs.«01_k».proof.Proof.Reference

@[expose] public section

set_option maxRecDepth 16384

noncomputable section

namespace Cert.Equation

open Idealize.ShloMosaic Idealize.ShloMosaic.TcCoe
open Cert.KernelIdeal.Hand Cert.ReferenceIdeal.Hand

/-- Both programs take the same samples of the fixed images. -/
theorem samples_fixed (x : Cert.KernelIdeal.S2x1x256x256.Idx → EReal) (t : Cert.KernelIdeal.S10000.Idx → BitVec 32) :
    (fun i => samples x t (ix1 i)) = fixed x t := rfl

/-- And of the moving images. -/
theorem samples_moving (x : Cert.KernelIdeal.S2x1x256x256.Idx → EReal) (t : Cert.KernelIdeal.S10000.Idx → BitVec 32) :
    (fun i => samples x t (ix1 i)) = moving x t := rfl

/-- Row 0 of two sample lists is the first. -/
theorem pick_zero (x y : Cert.KernelIdeal.S10000.Idx → EReal) : pick x y 0 = fun i => x (ix1 i) := by
  funext i; exact if_pos rfl

/-- Row 1 is the second. -/
theorem pick_one (x y : Cert.KernelIdeal.S10000.Idx → EReal) : pick x y 1 = fun i => y (ix1 i) := by
  funext i; exact if_neg (by decide)

variable (m : (ℓ : Loc Cert.KernelIdeal.nD Cert.KernelIdeal.τ Cert.KernelIdeal.sig) → Buf (Elt Ideal) ℓ)
  (ρ : Dev Cert.KernelIdeal.nD → PrngReg)

/-- The reference's result over the kernel's arguments is what the kernel's result buffer ends with. -/
theorem result_eq (c : Dev Cert.KernelIdeal.nD) :
    Cert.ReferenceIdeal.Read.val_main_v184 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = Cert.KernelIdeal.Gen.W8 m ρ c Cert.KernelIdeal.main_v45 := by
  refine Eq.trans ?_ (W8_loss m ρ c).symm
  funext k
  unfold firstOf secondOf
  rw [pick_zero, pick_one, pick_zero, pick_one, samples_fixed, samples_fixed, samples_moving, samples_moving]
  exact result_loss _ _ _ _ _ k

end Cert.Equation

end
-- ==== Proof.lean ====
/- The proof of the five claims: the three programs run and leave their arguments as they were, the named constants have
   the values their table gives, and the idealized kernel's result is the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RunValue
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, without a fault, and leaves its arguments as they were. -/
theorem frame_kernel : Cert.quiescent_Kernel := fun m ρ _ => Cert.Kernel.Gen.frame m ρ

/-- The idealized kernel runs, without a fault, and leaves its arguments as they were. -/
theorem frame_kernelIdeal : Cert.quiescent_KernelIdeal := fun m ρ _ => Cert.KernelIdeal.Gen.frame m ρ

/-- The reference runs and leaves its arguments as they were. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three named constants: each has the value that the certificate's table gives it. -/
theorem preserves : Cert.preserves_Kernel_KernelIdeal :=
  ⟨IdealRules.named_const.statement Cert.KernelIdeal.κ "pad" .f32 0x461C4000#32 ⊤ rfl,
   IdealRules.named_const.statement Cert.KernelIdeal.κ "half_log2e" .bf16 0xBF39#16
     (((-1 / 2) * (Real.log 2)⁻¹ : ℝ) : EReal) rfl,
   IdealRules.named_const.statement Cert.KernelIdeal.κ "inv_n" .f32 0x38D1B717#32 ((1 / 10000 : ℝ) : EReal) rfl⟩

/-- The idealized kernel and the reference both run and end with the same result, each leaving its arguments as they
    were. -/
theorem algebraic : Cert.algebraic_KernelIdeal_ReferenceIdeal := by
  intro m ρ m' ρ' _ hagree
  refine ⟨fun c => Cert.KernelIdeal.Gen.W8 m ρ c (Proc.devRef .tc Cert.KernelIdeal.main_v45), Cert.KernelIdeal.Hand.run_result m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v184_eq _).trans ?_
  obtain ⟨h0, h1, h2, h3, h4⟩ := hagree c
  refine Eq.trans ?_ (Cert.Equation.result_eq m ρ c)
  rw [← h0, ← h1, ← h2, ← h3, ← h4]

/-- All five claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
